-- ==== Defs.lean ====
def Pre_Kernel [hPre_sorted_bags : Cert.Pre_sorted_bags.Facts] (m : (ℓ : Loc Cert.Kernel.nD Cert.Kernel.τ Cert.Kernel.sig) → Buf (Elt Bits) ℓ) : Prop :=
  ∀ c : Dev Cert.Kernel.nD,
    (Cert.Pre_sorted_bags.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_sorted_bags : Cert.Pre_sorted_bags.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_bags.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_bags [hPre_sorted_bags : Cert.Pre_sorted_bags.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_bags.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_sorted_bags : Cert.Pre_sorted_bags.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_sorted_bags : Cert.Pre_sorted_bags.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_bags [hReferenceIdeal : Cert.ReferenceIdeal.Facts] [hPre_sorted_bags : Cert.Pre_sorted_bags.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_bags m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_bags : Cert.Pre_sorted_bags.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_bags : Cert.Pre_sorted_bags.Facts),
    quiescent_Kernel (hKernel := hKernel) (hPre_sorted_bags := hPre_sorted_bags)
    ∧ quiescent_KernelIdeal (hKernelIdeal := hKernelIdeal) (hPre_sorted_bags := hPre_sorted_bags)
    ∧ quiescent_ReferenceIdeal (hReferenceIdeal := hReferenceIdeal)
    ∧ quiescent_ReferenceIdeal_pre_sorted_bags (hReferenceIdeal := hReferenceIdeal) (hPre_sorted_bags := hPre_sorted_bags)
    ∧ preserves_Kernel_KernelIdeal
    ∧ algebraic_KernelIdeal_ReferenceIdeal (hKernelIdeal := hKernelIdeal) (hReferenceIdeal := hReferenceIdeal) (hPre_sorted_bags := hPre_sorted_bags)
-- ==== Pre_sorted_bags.lean ====
abbrev S1000000x32 : Shape := ⟨2, ![1000000, 32]⟩
abbrev S1000000 : Shape := ⟨1, ![1000000]⟩
abbrev S1024x32 : Shape := ⟨2, ![1024, 32]⟩
abbrev S_ : Shape := ⟨0, ![]⟩
abbrev S999999 : Shape := ⟨1, ![999999]⟩

class Facts : Prop where
  bcast_S_S1000000 : S_.BroadcastsInDim S1000000 (![] : Fin 0 → Fin S1000000.rank)
  reducesTo_S1000000_S_d0 : S1000000.ReducesTo [0] S_
  h_S_ : 0 < S_.numel
  slices_S1000000_S999999_0 : S1000000.Slices ![0] S999999
  slices_S1000000_S999999_1 : S1000000.Slices ![1] S999999
  reducesTo_S999999_S_d0 : S999999.ReducesTo [0] S_

variable [Facts]

def fn {F : FTy → Type} [FloatOps F] (main_arg0 : FVec F S1000000x32 .f32) (main_arg1 : IVec S1000000 32) (main_arg2 : FVec F S1024x32 .f32) : IVec S_ 1 :=
  let main_c : IVec S_ 32 := constantI S_ 32 0#32
  let main_v0 : IVec S1000000 32 := broadcastInDim S1000000 ![] bcast_S_S1000000 main_c
  let main_v1 : IVec S1000000 1 := cmpi .sge main_arg1 main_v0
  let main_c_0 : IVec S_ 32 := constantI S_ 32 1024#32
  let main_v2 : IVec S1000000 32 := broadcastInDim S1000000 ![] bcast_S_S1000000 main_c_0
  let main_v3 : IVec S1000000 1 := cmpi .slt main_arg1 main_v2
  let main_v4 : IVec S1000000 1 := andi main_v1 main_v3
  let main_c_1 : IVec S_ 1 := constantI S_ 1 1#1
  let main_v5 : IVec S_ 1 := (fun x v => Host.reduce IntOp.andi x v reducesTo_S1000000_S_d0 h_S_) main_v4 main_c_1
  let main_v6 : IVec S999999 32 := (extractStridedSlice S999999 ![0] · slices_S1000000_S999999_0) main_arg1
  let main_v7 : IVec S999999 32 := (extractStridedSlice S999999 ![1] · slices_S1000000_S999999_1) main_arg1
  let main_v8 : IVec S999999 1 := cmpi .sle main_v6 main_v7
  let main_c_2 : IVec S_ 1 := constantI S_ 1 1#1
  let main_v9 : IVec S_ 1 := (fun x v => Host.reduce IntOp.andi x v reducesTo_S999999_S_d0 h_S_) main_v8 main_c_2
  let main_v10 : IVec S_ 1 := andi main_v5 main_v9
  main_v10
-- ==== Kernel.lean ====
abbrev S1000000x32 : Shape := ⟨2, ![1000000, 32]⟩
abbrev S1000000 : Shape := ⟨1, ![1000000]⟩
abbrev S1024x32 : Shape := ⟨2, ![1024, 32]⟩
abbrev S32x1000000 : Shape := ⟨2, ![32, 1000000]⟩
abbrev S122 : Shape := ⟨1, ![122]⟩
abbrev S_ : Shape := ⟨0, ![]⟩
abbrev S122x1 : Shape := ⟨2, ![122, 1]⟩
abbrev S1024x40 : Shape := ⟨2, ![1024, 40]⟩
abbrev S1x1024 : Shape := ⟨2, ![1, 1024]⟩
abbrev S8192 : Shape := ⟨1, ![8192]⟩
abbrev S32x8192 : Shape := ⟨2, ![32, 8192]⟩
abbrev S1x8192 : Shape := ⟨2, ![1, 8192]⟩
abbrev S7x8192 : Shape := ⟨2, ![7, 8192]⟩
abbrev S40x8192 : Shape := ⟨2, ![40, 8192]⟩
abbrev S1 : Shape := ⟨1, ![1]⟩
abbrev S32x1 : Shape := ⟨2, ![32, 1]⟩
abbrev S32x40 : Shape := ⟨2, ![32, 40]⟩
abbrev S1x1 : Shape := ⟨2, ![1, 1]⟩
abbrev S1024 : Shape := ⟨1, ![1024]⟩
abbrev S32x1024 : Shape := ⟨2, ![32, 1024]⟩
abbrev S1x1x1024 : Shape := ⟨3, ![1, 1, 1024]⟩
abbrev S1x1x1 : Shape := ⟨3, ![1, 1, 1]⟩
abbrev S7x1024 : Shape := ⟨2, ![7, 1024]⟩
abbrev S40x1024 : Shape := ⟨2, ![40, 1024]⟩
abbrev S1024x1 : Shape := ⟨2, ![1024, 1]⟩
abbrev S1024x1024 : Shape := ⟨2, ![1024, 1024]⟩
abbrev S1x1024x32 : Shape := ⟨3, ![1, 1024, 32]⟩

abbrev nBuf : Space → Nat
  | .hbm => 84
  | .vmem => 14
  | .smem => 2
  | _ => 0

abbrev bufTy : (tb : Table) → Fin (tcTables nBuf tb) → BufTy
  | .hbm, ⟨0, _⟩ => ⟨S1000000x32, .f32⟩
  | .hbm, ⟨1, _⟩ => ⟨S1000000, .i32⟩
  | .hbm, ⟨2, _⟩ => ⟨S1024x32, .f32⟩
  | .hbm, ⟨3, _⟩ => ⟨S32x1000000, .f32⟩
  | .hbm, ⟨4, _⟩ => ⟨S1000000, .f32⟩
  | .hbm, ⟨5, _⟩ => ⟨S122, .i32⟩
  | .hbm, ⟨6, _⟩ => ⟨S_, .i32⟩
  | .hbm, ⟨7, _⟩ => ⟨S122, .i32⟩
  | .hbm, ⟨8, _⟩ => ⟨S122, .i32⟩
  | .hbm, ⟨9, _⟩ => ⟨S_, .i32⟩
  | .hbm, ⟨10, _⟩ => ⟨S122, .i32⟩
  | .hbm, ⟨11, _⟩ => ⟨S122, .i1⟩
  | .hbm, ⟨12, _⟩ => ⟨S_, .i32⟩
  | .hbm, ⟨13, _⟩ => ⟨S122, .i32⟩
  | .hbm, ⟨14, _⟩ => ⟨S122, .i32⟩
  | .hbm, ⟨15, _⟩ => ⟨S122, .i32⟩
  | .hbm, ⟨16, _⟩ => ⟨S122x1, .i32⟩
  | .hbm, ⟨17, _⟩ => ⟨S122, .i32⟩
  | .hbm, ⟨18, _⟩ => ⟨S_, .i32⟩
  | .hbm, ⟨19, _⟩ => ⟨S122, .i32⟩
  | .hbm, ⟨20, _⟩ => ⟨S122, .i32⟩
  | .hbm, ⟨21, _⟩ => ⟨S_, .i32⟩
  | .hbm, ⟨22, _⟩ => ⟨S122, .i32⟩
  | .hbm, ⟨23, _⟩ => ⟨S122, .i32⟩
  | .hbm, ⟨24, _⟩ => ⟨S_, .i32⟩
  | .hbm, ⟨25, _⟩ => ⟨S122, .i32⟩
  | .hbm, ⟨26, _⟩ => ⟨S122, .i1⟩
  | .hbm, ⟨27, _⟩ => ⟨S_, .i32⟩
  | .hbm, ⟨28, _⟩ => ⟨S122, .i32⟩
  | .hbm, ⟨29, _⟩ => ⟨S122, .i32⟩
  | .hbm, ⟨30, _⟩ => ⟨S122, .i32⟩
  | .hbm, ⟨31, _⟩ => ⟨S122x1, .i32⟩
  | .hbm, ⟨32, _⟩ => ⟨S122, .i32⟩
  | .hbm, ⟨33, _⟩ => ⟨S_, .i32⟩
  | .hbm, ⟨34, _⟩ => ⟨S_, .i32⟩
  | .hbm, ⟨35, _⟩ => ⟨S122, .i32⟩
  | .hbm, ⟨36, _⟩ => ⟨S122, .i32⟩
  | .hbm, ⟨37, _⟩ => ⟨S122, .i32⟩
  | .hbm, ⟨38, _⟩ => ⟨S_, .i32⟩
  | .hbm, ⟨39, _⟩ => ⟨S122, .i32⟩
  | .hbm, ⟨40, _⟩ => ⟨S122, .i1⟩
  | .hbm, ⟨41, _⟩ => ⟨S122, .i32⟩
  | .hbm, ⟨42, _⟩ => ⟨S122, .i32⟩
  | .hbm, ⟨43, _⟩ => ⟨S_, .i32⟩
  | .hbm, ⟨44, _⟩ => ⟨S122, .i32⟩
  | .hbm, ⟨45, _⟩ => ⟨S122, .i1⟩
  | .hbm, ⟨46, _⟩ => ⟨S122, .i1⟩
  | .hbm, ⟨47, _⟩ => ⟨S_, .i32⟩
  | .hbm, ⟨48, _⟩ => ⟨S122, .i32⟩
  | .hbm, ⟨49, _⟩ => ⟨S122, .i32⟩
  | .hbm, ⟨50, _⟩ => ⟨S122, .i32⟩
  | .hbm, ⟨51, _⟩ => ⟨S_, .i32⟩
  | .hbm, ⟨52, _⟩ => ⟨S122, .i32⟩
  | .hbm, ⟨53, _⟩ => ⟨S122, .i32⟩
  | .hbm, ⟨54, _⟩ => ⟨S122, .i32⟩
  | .hbm, ⟨55, _⟩ => ⟨S_, .i32⟩
  | .hbm, ⟨56, _⟩ => ⟨S_, .i32⟩
  | .hbm, ⟨57, _⟩ => ⟨S122, .i32⟩
  | .hbm, ⟨58, _⟩ => ⟨S122, .i32⟩
  | .hbm, ⟨59, _⟩ => ⟨S122, .i32⟩
  | .hbm, ⟨60, _⟩ => ⟨S_, .i32⟩
  | .hbm, ⟨61, _⟩ => ⟨S122, .i32⟩
  | .hbm, ⟨62, _⟩ => ⟨S122, .i1⟩
  | .hbm, ⟨63, _⟩ => ⟨S122, .i32⟩
  | .hbm, ⟨64, _⟩ => ⟨S122, .i32⟩
  | .hbm, ⟨65, _⟩ => ⟨S_, .i32⟩
  | .hbm, ⟨66, _⟩ => ⟨S122, .i32⟩
  | .hbm, ⟨67, _⟩ => ⟨S122, .i1⟩
  | .hbm, ⟨68, _⟩ => ⟨S122, .i1⟩
  | .hbm, ⟨69, _⟩ => ⟨S_, .i32⟩
  | .hbm, ⟨70, _⟩ => ⟨S122, .i32⟩
  | .hbm, ⟨71, _⟩ => ⟨S122, .i32⟩
  | .hbm, ⟨72, _⟩ => ⟨S122, .i32⟩
  | .hbm, ⟨73, _⟩ => ⟨S_, .i32⟩
  | .hbm, ⟨74, _⟩ => ⟨S122, .i32⟩
  | .hbm, ⟨75, _⟩ => ⟨S122, .i32⟩
  | .hbm, ⟨76, _⟩ => ⟨S1024x40, .f32⟩
  | .hbm, ⟨77, _⟩ => ⟨S1x1024, .f32⟩
  | .hbm, ⟨78, _⟩ => ⟨S1x1, .f32⟩
  | .hbm, ⟨79, _⟩ => ⟨S1x1, .f32⟩
  | .hbm, ⟨80, _⟩ => ⟨S1x1, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S8192, .f32⟩
  | .local _ .vmem, ⟨1, _⟩ => ⟨S8192, .f32⟩
  | .local _ .vmem, ⟨2, _⟩ => ⟨S32x8192, .f32⟩
  | .local _ .vmem, ⟨3, _⟩ => ⟨S32x8192, .f32⟩
  | .local _ .vmem, ⟨4, _⟩ => ⟨S1024x40, .f32⟩
  | .local _ .vmem, ⟨5, _⟩ => ⟨S1x1024, .f32⟩
  | .local _ .vmem, ⟨6, _⟩ => ⟨S1024, .f32⟩
  | .local _ .vmem, ⟨7, _⟩ => ⟨S32x1024, .f32⟩
  | .local _ .vmem, ⟨8, _⟩ => ⟨S1024x40, .f32⟩
  | .local _ .vmem, ⟨9, _⟩ => ⟨S1x1024, .f32⟩
  | .local _ .vmem, ⟨10, _⟩ => ⟨S1024x32, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .smem, ⟨0, _⟩ => ⟨S122, .i32⟩
  | .local _ .smem, ⟨1, _⟩ => ⟨S122, .i32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v23 : Ref sig .tc := ⟨.hbm, 50, rfl⟩
abbrev main_c_7 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_8 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v27 : Ref sig .tc := ⟨.hbm, 72, rfl⟩
abbrev main_c_9 : Ref sig .tc := ⟨.hbm, 73, rfl⟩
abbrev main_v28 : Ref sig .tc := ⟨.hbm, 74, rfl⟩
abbrev main_v29 : Ref sig .tc := ⟨.hbm, 75, rfl⟩
abbrev main_v30_0 : Ref sig .tc := ⟨.hbm, 76, rfl⟩
abbrev main_v30_1 : Ref sig .tc := ⟨.hbm, 77, rfl⟩
abbrev main_v31_0 : Ref sig .tc := ⟨.hbm, 78, rfl⟩
abbrev main_v31_1 : Ref sig .tc := ⟨.hbm, 79, rfl⟩
abbrev main_v31_2 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![122], ![false]⟩

def k0_off1 (i : grid0.Coords) : Fin 1 → Nat :=
  let arg0 : BitVec 32 := BitVec.ofNat 32 (i 0).val
  let v33 : Index := Scalar.indexCast arg0
  ![v33.toNat]
@[reducible] def k0_t1_loop (v36 : BitVec 32) : Scf.Loop 32 :=
  let c0_i32_9 : BitVec 32 := 0#32
  let v39 : BitVec 32 := Scalar.subi v36 c0_i32_9
  let c1_i32 : BitVec 32 := 1#32
  let v41 : BitVec 32 := Scalar.divsi v39 c1_i32
  let v42 : BitVec 32 := Scalar.muli v41 c1_i32
  let v43 : BitVec 32 := Scalar.addi c0_i32_9 v42
  let c1_i32_11 : BitVec 32 := 1#32
  ⟨c0_i32_9, v43, c1_i32_11⟩

def k0_off2 (v34 : BitVec 32) (v36 : BitVec 32) (k0_t1 : Fin (k0_t1_loop v36).trips) : Fin 2 → Nat :=
  let c0_i32_9 : BitVec 32 := 0#32
  let c1_i32_11 : BitVec 32 := 1#32
  let arg7 : BitVec 32 := Scf.iv c0_i32_9 c1_i32_11 k0_t1
  let c32_i32 : BitVec 32 := 32#32
  let v46 : BitVec 32 := Scalar.muli arg7 c32_i32
  let v47 : BitVec 32 := Scalar.addi v34 v46
  let v60 : Index := Scalar.indexCast v47
  let c0_14 : Index := 0#32
  ![v60.toNat, 0]
@[reducible] def k0_t2_loop (v36 : BitVec 32) : Scf.Loop 32 :=
  let c0_i32_9 : BitVec 32 := 0#32
  let v39 : BitVec 32 := Scalar.subi v36 c0_i32_9
  let c1_i32 : BitVec 32 := 1#32
  let v41 : BitVec 32 := Scalar.divsi v39 c1_i32
  let v42 : BitVec 32 := Scalar.muli v41 c1_i32
  let v43 : BitVec 32 := Scalar.addi c0_i32_9 v42
  let v40 : BitVec 32 := Scalar.addi c0_i32_9 v39
  let c1_i32_12 : BitVec 32 := 1#32
  ⟨v43, v40, c1_i32_12⟩
def k0_off3 (v34 : BitVec 32) (v36 : BitVec 32) (k0_t2 : Fin (k0_t2_loop v36).trips) : Fin 2 → Nat :=
  let c0_i32_9 : BitVec 32 := 0#32
  let v39 : BitVec 32 := Scalar.subi v36 c0_i32_9
  let c1_i32 : BitVec 32 := 1#32
  let v41 : BitVec 32 := Scalar.divsi v39 c1_i32
  let v42 : BitVec 32 := Scalar.muli v41 c1_i32
  let v43 : BitVec 32 := Scalar.addi c0_i32_9 v42
  let c1_i32_12 : BitVec 32 := 1#32
  let arg7 : BitVec 32 := Scf.iv v43 c1_i32_12 k0_t2
  let c32_i32 : BitVec 32 := 32#32
  let v46 : BitVec 32 := Scalar.muli arg7 c32_i32
  let v47 : BitVec 32 := Scalar.addi v34 v46
  let v60 : Index := Scalar.indexCast v47
  let c0_14 : Index := 0#32
  ![v60.toNat, 0]

def k0_chk1 (v34 : BitVec 32) (v36 : BitVec 32) : Prop :=
  ((k0_t1_loop v36).OK) ∧
  (∀ k0_t1 : Fin (k0_t1_loop v36).trips, ∀ a, (k0_off2 v34 v36 k0_t1) a + S32x40.size a ≤ S1024x40.size a) ∧
  ((k0_t2_loop v36).OK) ∧
  (∀ k0_t2 : Fin (k0_t2_loop v36).trips, ∀ a, (k0_off3 v34 v36 k0_t2) a + S32x40.size a ≤ S1024x40.size a)
theorem k0_t1_ok : ∀ (v34 : BitVec 32) (v36 : BitVec 32) (k0_hw1 : k0_chk1 v34 v36), (k0_t1_loop v36).OK := fun v34 v36 k0_hw1 => k0_hw1.1
theorem k0_off2_inb : ∀ (v34 : BitVec 32) (v36 : BitVec 32) (k0_hw1 : k0_chk1 v34 v36) (k0_t1 : Fin (k0_t1_loop v36).trips), ∀ a, (k0_off2 v34 v36 k0_t1) a + S32x40.size a ≤ S1024x40.size a := fun v34 v36 k0_hw1 k0_t1 => k0_hw1.2.1 k0_t1
theorem k0_t2_ok : ∀ (v34 : BitVec 32) (v36 : BitVec 32) (k0_hw1 : k0_chk1 v34 v36), (k0_t2_loop v36).OK := fun v34 v36 k0_hw1 => k0_hw1.2.2.1
theorem k0_off3_inb : ∀ (v34 : BitVec 32) (v36 : BitVec 32) (k0_hw1 : k0_chk1 v34 v36) (k0_t2 : Fin (k0_t2_loop v36).trips), ∀ a, (k0_off3 v34 v36 k0_t2) a + S32x40.size a ≤ S1024x40.size a := fun v34 v36 k0_hw1 k0_t2 => k0_hw1.2.2.2 k0_t2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S122 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S122 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 1 → Nat :=
  let arg0 : BitVec 32 := BitVec.ofNat 32 (i 0).val
  let c976_i32 : BitVec 32 := 976#32
  let c0_i32 : BitVec 32 := 0#32
  ![c976_i32.toNat]

def cc1_transform_1 (i : grid1.Coords) : Fin 2 → Nat :=
  let arg0 : BitVec 32 := BitVec.ofNat 32 (i 0).val
  let c0_i32 : BitVec 32 := 0#32
  let c976_i32 : BitVec 32 := 976#32
  let c0_i32_0 : BitVec 32 := 0#32
  ![c0_i32.toNat, c976_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S1000000x32 : Shape := ⟨2, ![1000000, 32]⟩
abbrev S1000000 : Shape := ⟨1, ![1000000]⟩
abbrev S1024x32 : Shape := ⟨2, ![1024, 32]⟩
abbrev S_ : Shape := ⟨0, ![]⟩
abbrev S1000000x1 : Shape := ⟨2, ![1000000, 1]⟩
abbrev S1024 : Shape := ⟨1, ![1024]⟩
abbrev S1024x1 : Shape := ⟨2, ![1024, 1]⟩

abbrev nBuf : Space → Nat
  | .hbm => 39
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000, .i32⟩
  | .hbm, ⟨2, _⟩ => ⟨S1024x32, .f32⟩
  | .hbm, ⟨3, _⟩ => ⟨S_, .f32⟩
  | .hbm, ⟨4, _⟩ => ⟨S1000000, .f32⟩
  | .hbm, ⟨5, _⟩ => ⟨S1000000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024x32, .f32⟩
  | .hbm, ⟨13, _⟩ => ⟨S1000000x1, .i32⟩
  | .hbm, ⟨14, _⟩ => ⟨S1024x32, .f32⟩
  | .hbm, ⟨15, _⟩ => ⟨S_, .f32⟩
  | .hbm, ⟨16, _⟩ => ⟨S1000000, .f32⟩
  | .hbm, ⟨17, _⟩ => ⟨S_, .f32⟩
  | .hbm, ⟨18, _⟩ => ⟨S1024, .f32⟩
  | .hbm, ⟨19, _⟩ => ⟨S1000000x1, .i32⟩
  | .hbm, ⟨20, _⟩ => ⟨S1024, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024x1, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_cst_9 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Proof.MainBody.lean ====
/-
  One grid point of the first kernel call, as a step on what its blocks hold.

  The call keeps two running totals in its result blocks: a 1024 x 40 table (rows are bags; columns are the 32
  features, then the count, then padding) and a 1 x 1024 row of logarithms. A grid point reads a block of 8192 cells,
  adds the logarithms into the row, and walks a window of 32 rows over the table, `n` times from row `b` on.
  `accPoint` is the table after a point and `mplPoint` the row; `point_run` says the body computes them.
-/
module

public import proofs.«01_k».proof.Proof.Gen.KernelIdeal.Skeleton
public import Idealize.ShloMosaic.Lib.Exec
public import Idealize.ShloMosaic.Lib.Tactic
public import Idealize.ShloMosaic.Lib.WritesUnit
public import Idealize.ShloMosaic.Lib.VecWindow
public import Idealize.ShloMosaic.Lib.Pipeline.Kit
public import Idealize.ShloMosaic.Lib.Pipeline.Value
public import Idealize.ShloMosaic.Lib.Pointwise

@[expose] public section

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The step, on values -/

/-- Thirty-two rows of the table from row `o` on. -/
def getRows (g : FVec F S1024x40 .f32) (o : ℕ) : FVec F S32x40 .f32 :=
  fun x => g (ix2 (⟨(o + (x 0).val) % 1024, Nat.mod_lt _ (by norm_num)⟩ : Fin 1024) (x 1))

/-- The table with thirty-two rows replaced from row `o` on. -/
def putRows (g : FVec F S1024x40 .f32) (o : ℕ) (w : FVec F S32x40 .f32) : FVec F S1024x40 .f32 :=
  fun y => if o ≤ (y 0).val ∧ (y 0).val < o + 32 then
    w (ix2 (⟨((y 0).val - o) % 32, Nat.mod_lt _ (by norm_num)⟩ : Fin 32) (y 1)) else g y

/-- The table after the first `n` windows of a point. -/
def accFold (v6 : FVec F S8192 .f32) (v32 : FVec F S40x8192 .bf16) (v34 v36 : BitVec 32) (v38 : FVec F S32x1 .bf16)
    (g : FVec F S1024x40 .f32) : ℕ → FVec F S1024x40 .f32
  | 0 => g
  | n + 1 =>
    if h : n < (k0_t1_loop v36).trips then
      putRows (accFold v6 v32 v34 v36 v38 g n) (k0_off2 v34 v36 ⟨n, h⟩ 0)
        (k0_pay1 v6 v32 v34 v36 v38 0#32 ⟨n, h⟩ (getRows (accFold v6 v32 v34 v36 v38 g n) (k0_off2 v34 v36 ⟨n, h⟩ 0)))
    else accFold v6 v32 v34 v36 v38 g n

theorem accFold_succ (v6 : FVec F S8192 .f32) (v32 : FVec F S40x8192 .bf16) (v34 v36 : BitVec 32) (v38 : FVec F S32x1 .bf16)
    (g : FVec F S1024x40 .f32) (k : Fin (k0_t1_loop v36).trips) :
    accFold v6 v32 v34 v36 v38 g (k.val + 1)
      = putRows (accFold v6 v32 v34 v36 v38 g k.val) (k0_off2 v34 v36 k 0)
          (k0_pay1 v6 v32 v34 v36 v38 0#32 k (getRows (accFold v6 v32 v34 v36 v38 g k.val) (k0_off2 v34 v36 k 0))) := by
  rw [accFold, dif_pos k.isLt]

/-- The table after a point: from `g`, with `n` windows from row `b` on, over the block's bags `X3` and cells `X4`. -/
def accPoint (b n : BitVec 32) (X3 : FVec F S8192 .f32) (X4 : FVec F S32x8192 .f32) (g : FVec F S1024x40 .f32) :
    FVec F S1024x40 .f32 :=
  accFold (k0_pay6 X3) (k0_pay8 X4) b n k0_pay9 g (k0_t1_loop n).trips

/-- What the first grid point starts the table from is zero, every other point what the table held. -/
def startAcc (i : grid0.Coords) (g : FVec F S1024x40 .f32) : FVec F S1024x40 .f32 := if (i 0).val = 0 then k0_pay3 else g

/-- The same of the row of logarithms. -/
def startMpl (i : grid0.Coords) (g : FVec F S1x1024 .f32) : FVec F S1x1024 .f32 := if (i 0).val = 0 then k0_pay4 else g

/-- The word a point reads of a table of 122 words. -/
def wordAt (X : IVec S122 32) (i : grid0.Coords) : BitVec 32 :=
  X ((Rect.unit (s := S122) (k0_off1 i) S1.size (k0_off1_inb i)).toLoadRect.idx (Shape.Idx.first (numel1_S1.symm ▸ Nat.one_pos)))

/-! ## The two loops -/

theorem trips2 (v : BitVec 32) : (k0_t2_loop v).trips = 0 := by
  have h : (k0_t2_loop v).lb = (k0_t2_loop v).ub := by
    simp [k0_t2_loop, Scalar.divsi, Scalar.subi, Scalar.addi, Scalar.muli, IntOp.divsi, IntOp.SDivCorner,
      IntOp.subi, IntOp.addi, IntOp.muli]
  show Scf.trips (k0_t2_loop v).lb (k0_t2_loop v).ub 1#32 = 0
  rw [h]
  simp [Scf.trips]

theorem off2_eq (v34 v36 : BitVec 32) (k : Fin (k0_t1_loop v36).trips) : k0_off2 v34 v36 k = ![k0_off2 v34 v36 k 0, 0] := rfl

/-- What a window's store leaves, read back: the table with the window's rows replaced. -/
theorem read_trip (v : View sig .tc .vmem S1024x40 .f32) (f : v.ty.Contents (Elt F)) (v6 : FVec F S8192 .f32)
    (v32 : FVec F S40x8192 .bf16) (v34 v36 : BitVec 32) (hw : k0_chk1 v34 v36) (v38 : FVec F S32x1 .bf16)
    (k : Fin (k0_t1_loop v36).trips) :
    v.read (Elt F) (v.writes (Elt F) f
        [⟨Rect.unit (s := S1024x40) (k0_off2 v34 v36 k) S32x40.size (k0_off2_inb v34 v36 hw k),
          k0_pay1 v6 v32 v34 v36 v38 0#32 k
            (v.readAt (Elt F) (Rect.unit (s := S1024x40) (k0_off2 v34 v36 k) S32x40.size (k0_off2_inb v34 v36 hw k)).toLoadRect f)⟩])
      = putRows (v.read (Elt F) f) (k0_off2 v34 v36 k 0)
          (k0_pay1 v6 v32 v34 v36 v38 0#32 k (getRows (v.read (Elt F) f) (k0_off2 v34 v36 k 0))) := by
  have hb : k0_off2 v34 v36 k 0 + 32 ≤ 1024 := k0_off2_inb v34 v36 hw k 0
  have hget : v.readAt (Elt F) (Rect.unit (s := S1024x40) (k0_off2 v34 v36 k) S32x40.size (k0_off2_inb v34 v36 hw k)).toLoadRect f
      = getRows (v.read (Elt F) f) (k0_off2 v34 v36 k 0) := by
    funext x
    rw [View.readAt_apply]
    refine congrArg (v.read (Elt F) f) (funext fun a => Fin.ext ?_)
    have hx : (x 0).val < 32 := (x 0).isLt
    match a with
    | ⟨0, _⟩ =>
      show k0_off2 v34 v36 k 0 + 1 * (x 0).val = (k0_off2 v34 v36 k 0 + (x 0).val) % 1024
      rw [Nat.mod_eq_of_lt (by omega)]; omega
    | ⟨1, _⟩ =>
      show 0 + 1 * (x 1).val = (x 1).val
      omega
  rw [hget]
  funext y
  unfold putRows
  by_cases h : k0_off2 v34 v36 k 0 ≤ (y 0).val ∧ (y 0).val < k0_off2 v34 v36 k 0 + 32
  · rw [if_pos h]
    refine View.read_writes_cons_unit_of_mem v f (k0_off2_inb v34 v36 hw k) _ [] y _ rfl fun a => ?_
    match a with
    | ⟨0, _⟩ =>
      show (y 0).val = k0_off2 v34 v36 k 0 + ((y 0).val - k0_off2 v34 v36 k 0) % 32
      rw [Nat.mod_eq_of_lt (by omega)]; omega
    | ⟨1, _⟩ =>
      show (y 1).val = 0 + (y 1).val
      omega
  · rw [if_neg h]
    rw [View.read_writes_cons_unit_of_not_mem v f (k0_off2_inb v34 v36 hw k) _ [] y rfl 0
      (by show (y 0).val < k0_off2 v34 v36 k 0 ∨ k0_off2 v34 v36 k 0 + 32 ≤ (y 0).val; omega)]
    rfl

section Loops

variable (c : Dev nD) (i : grid0.Coords) (arg1 : Memref sig .tc .smem S122 .i32) (harg1 : arg1.IsWhole) (arg2 : Memref sig .tc .smem S122 .i32) (harg2 : arg2.IsWhole) (arg3 : Memref sig .tc .vmem S8192 .f32) (harg3 : arg3.IsWhole) (arg4 : Memref sig .tc .vmem S32x8192 .f32) (harg4 : arg4.IsWhole) (arg5 : Memref sig .tc .vmem S1024x40 .f32) (harg5 : arg5.IsWhole) (arg6 : Memref sig .tc .vmem S1x1024 .f32) (harg6 : arg6.IsWhole)

/-- Between windows, the table's block reads as the table after the windows so far. -/
def inv1 (v6 : FVec F S8192 .f32) (v32 : FVec F S40x8192 .bf16) (v34 v36 : BitVec 32) (v38 : FVec F S32x1 .bf16)
    (g : FVec F S1024x40 .f32) (k : ℕ) (acc : BitVec 32) : sProp 𝕄 :=
  iprop(∃ f, (arg5.view.loc (c : Thread nD τ) ↦[arg5.view.set]{fullShare} f) ∗ ⌜arg5.view.read (Elt F) f = accFold v6 v32 v34 v36 v38 g k⌝)

/-- A window keeps it. -/
theorem step1 (v6 : FVec F S8192 .f32) (v32 : FVec F S40x8192 .bf16) (v34 v36 : BitVec 32) (hw : k0_chk1 v34 v36) (v38 : FVec F S32x1 .bf16)
    (g : FVec F S1024x40 .f32) (k : Fin (k0_t1_loop v36).trips) (acc : BitVec 32) :
    inv1 c arg5 v6 v32 v34 v36 v38 g k.val acc
      ⊢ wp (M := 𝕄) frame (wpE (defs₀ (F := F)) Variants.none (c : Thread nD τ) none) Set.univ
          (k0_t1_body (F := F) i arg1 harg1 arg2 harg2 arg3 harg3 arg4 harg4 arg5 harg5 arg6 harg6 v6 v32 v34 v36 hw v38 0#32 k acc)
          (inv1 c arg5 v6 v32 v34 v36 v38 g (k.val + 1)) := by
  unfold inv1 k0_t1_body
  iintro ⟨%f, H5, %hf⟩
  sl_exec
  sl_step
  iexists _
  isplitl [H5]; · iexact H5
  ipureintro
  rw [read_trip _ _ _ _ _ _ hw, hf]
  exact (accFold_succ v6 v32 v34 v36 v38 g k).symm

/-- The remainder loop makes no trip. -/
theorem step2 (v6 : FVec F S8192 .f32) (v32 : FVec F S40x8192 .bf16) (v34 v36 : BitVec 32) (hw : k0_chk1 v34 v36) (v38 : FVec F S32x1 .bf16)
    (P : sProp 𝕄) (v39 c1 : BitVec 32) (k : Fin (k0_t2_loop v36).trips) (acc : BitVec 32) :
    P ⊢ wp (M := 𝕄) frame (wpE (defs₀ (F := F)) Variants.none (c : Thread nD τ) none) Set.univ
          (k0_t2_body (F := F) i arg1 harg1 arg2 harg2 arg3 harg3 arg4 harg4 arg5 harg5 arg6 harg6 v6 v32 v34 v36 hw v38 0#32 v39 c1 k acc)
          (fun _ => P) :=
  absurd (lt_of_lt_of_eq k.isLt (trips2 v36)) (Nat.not_lt_zero _)

/-! ## The body -/

theorem cond_iff (i : grid0.Coords) :
    Scalar.cmpi .ne (Scalar.extui (Scalar.cmpi .eq (BitVec.ofNat 32 (i 0).val) 0#32) : BitVec 32) 0#32 = 1#1 ↔ (i 0).val = 0 := by
  have hi : ∀ j : Fin 122, Scalar.cmpi .ne (Scalar.extui (Scalar.cmpi .eq (BitVec.ofNat 32 j.val) 0#32) : BitVec 32) 0#32 = 1#1 ↔ j.val = 0 := by
    decide +kernel
  exact hi (i 0)

/-- The part of the body before the loops: it leaves the row of logarithms updated, and the table as it starts. -/
theorem part1_run (X1 X2 : IVec S122 32) (X3 : FVec F S8192 .f32) (X4 : FVec F S32x8192 .f32)
    (f1 : arg1.view.ty.Contents (Elt F)) (f2 : arg2.view.ty.Contents (Elt F)) (f3 : arg3.view.ty.Contents (Elt F))
    (f4 : arg4.view.ty.Contents (Elt F)) (f5 : arg5.view.ty.Contents (Elt F)) (f6 : arg6.view.ty.Contents (Elt F))
    (h1 : arg1.view.read (Elt F) f1 = X1) (h2 : arg2.view.read (Elt F) f2 = X2) (h3 : arg3.view.read (Elt F) f3 = X3)
    (h4 : arg4.view.read (Elt F) f4 = X4) (hw : k0_chk1 (wordAt X1 i) (wordAt X2 i)) :
    iprop((arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6))
    ⊢ wp (M := 𝕄) frame (wpE (defs₀ (F := F)) Variants.none (c : Thread nD τ) none) Set.univ
        (k0_part1 (F := F) i arg1 harg1 arg2 harg2 arg3 harg3 arg4 harg4 arg5 harg5 arg6 harg6)
        (fun r => iprop((arg1.view.loc (c : Thread nD τ) ↦[arg1.view.set]{fullShare} f1)
          ∗ (arg2.view.loc (c : Thread nD τ) ↦[arg2.view.set]{fullShare} f2)
          ∗ (arg3.view.loc (c : Thread nD τ) ↦[arg3.view.set]{fullShare} f3)
          ∗ (arg4.view.loc (c : Thread nD τ) ↦[arg4.view.set]{fullShare} f4)
          ∗ (∃ f, (arg5.view.loc (c : Thread nD τ) ↦[arg5.view.set]{fullShare} f) ∗ ⌜arg5.view.read (Elt F) f = startAcc i (arg5.view.read (Elt F) f5)⌝)
          ∗ (∃ f, (arg6.view.loc (c : Thread nD τ) ↦[arg6.view.set]{fullShare} f) ∗ ⌜arg6.view.read (Elt F) f = k0_pay7 X4 (startMpl i (arg6.view.read (Elt F) f6))⌝)
          ∗ ⌜r = ⟨k0_pay6 X3, k0_pay8 X4, wordAt X1 i, wordAt X2 i, hw, k0_pay9, 0#32, 0#32, Scalar.subi (wordAt X2 i) 0#32, 1#32⟩⌝)) := by
  subst h1 h2 h3 h4
  rw [k0_part1_eq_skeleton]
  unfold k0_part1_skel startAcc startMpl
  iintro ⟨H1, H2, H3, H4, H5, H6⟩
  have hci := cond_iff i
  by_cases hi : (i 0).val = 0
  · simp only [if_pos hi]
    have hc := hci.mpr hi
    sl_exec
    sl_step
    isplitl [H1]; · iexact H1
    isplitl [H2]; · iexact H2
    isplitl [H3]; · iexact H3
    isplitl [H4]; · iexact H4
    isplitl [H5]
    · iexists _; isplitl [H5]; · iexact H5
      ipureintro
      exact View.read_writes_full arg5.view f5 (off := ![0, 0]) inb_S1024x40_S1024x40_0_0 k0_pay3 []
    isplitl [H6]
    · iexists _; isplitl [H6]; · iexact H6
      ipureintro
      refine (View.read_writes_full arg6.view f6 (off := ![0, 0]) inb_S1x1024_S1x1024_0_0 _ _).trans ?_
      unfold part1_run.sl.v25
      refine congrArg₂ k0_pay7 (View.readAt_full arg4.view f4 (off := ![0, 0]) inb_S32x8192_S32x8192_0_0) ?_
      exact View.readCov_unit_zero _ (by decide) _ _
    ipureintro
    have e3 := View.readAt_full (Val := Elt F) arg3.view f3 (off := ![0]) inb_S8192_S8192_0
    have e4 := View.readAt_full (Val := Elt F) arg4.view f4 (off := ![0, 0]) inb_S32x8192_S32x8192_0_0
    congr 1
    · exact congrArg k0_pay6 e3
    · congr 1
      exact congrArg k0_pay8 e4
  · simp only [if_neg hi]
    have hc : ¬ _ := fun h => hi (hci.mp h)
    sl_exec
    sl_step
    isplitl [H1]; · iexact H1
    isplitl [H2]; · iexact H2
    isplitl [H3]; · iexact H3
    isplitl [H4]; · iexact H4
    isplitl [H5]
    · iexists _; isplitl [H5]; · iexact H5
      ipureintro; rfl
    isplitl [H6]
    · iexists _; isplitl [H6]; · iexact H6
      ipureintro
      refine (View.read_writes_full arg6.view f6 (off := ![0, 0]) inb_S1x1024_S1x1024_0_0 _ _).trans ?_
      exact congrArg₂ k0_pay7 (View.readAt_full arg4.view f4 (off := ![0, 0]) inb_S32x8192_S32x8192_0_0)
        (View.readAt_full arg6.view f6 (off := ![0, 0]) inb_S1x1024_S1x1024_0_0)
    ipureintro
    have e3 := View.readAt_full (Val := Elt F) arg3.view f3 (off := ![0]) inb_S8192_S8192_0
    have e4 := View.readAt_full (Val := Elt F) arg4.view f4 (off := ![0, 0]) inb_S32x8192_S32x8192_0_0
    congr 1
    · exact congrArg k0_pay6 e3
    · congr 1
      exact congrArg k0_pay8 e4

/-- The body of one grid point: the table and the row of logarithms as the step says, everything else as it was. -/
theorem point_run (X1 X2 : IVec S122 32) (X3 : FVec F S8192 .f32) (X4 : FVec F S32x8192 .f32)
    (f1 : arg1.view.ty.Contents (Elt F)) (f2 : arg2.view.ty.Contents (Elt F)) (f3 : arg3.view.ty.Contents (Elt F))
    (f4 : arg4.view.ty.Contents (Elt F)) (f5 : arg5.view.ty.Contents (Elt F)) (f6 : arg6.view.ty.Contents (Elt F))
    (h1 : arg1.view.read (Elt F) f1 = X1) (h2 : arg2.view.read (Elt F) f2 = X2) (h3 : arg3.view.read (Elt F) f3 = X3)
    (h4 : arg4.view.read (Elt F) f4 = X4) (hw : k0_chk1 (wordAt X1 i) (wordAt X2 i)) :
    iprop((arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6))
    ⊢ wp (M := 𝕄) frame (wpE (defs₀ (F := F)) Variants.none (c : Thread nD τ) none) Set.univ
        (cc0__main_body (F := F) i arg1 harg1 arg2 harg2 arg3 harg3 arg4 harg4 arg5 harg5 arg6 harg6)
        (fun _ => iprop((arg1.view.loc (c : Thread nD τ) ↦[arg1.view.set]{fullShare} f1)
          ∗ (arg2.view.loc (c : Thread nD τ) ↦[arg2.view.set]{fullShare} f2)
          ∗ (arg3.view.loc (c : Thread nD τ) ↦[arg3.view.set]{fullShare} f3)
          ∗ (arg4.view.loc (c : Thread nD τ) ↦[arg4.view.set]{fullShare} f4)
          ∗ (∃ f, (arg5.view.loc (c : Thread nD τ) ↦[arg5.view.set]{fullShare} f) ∗ ⌜arg5.view.read (Elt F) f = accPoint (wordAt X1 i) (wordAt X2 i) X3 X4 (startAcc i (arg5.view.read (Elt F) f5))⌝)
          ∗ (∃ f, (arg6.view.loc (c : Thread nD τ) ↦[arg6.view.set]{fullShare} f) ∗ ⌜arg6.view.read (Elt F) f = k0_pay7 X4 (startMpl i (arg6.view.read (Elt F) f6))⌝))) := by
  rw [cc0__main_body_eq_skeleton]
  unfold cc0__main_body_skel
  rw [wp_bind_eq]
  refine (part1_run c i arg1 harg1 arg2 harg2 arg3 harg3 arg4 harg4 arg5 harg5 arg6 harg6 X1 X2 X3 X4 f1 f2 f3 f4 f5 f6 h1 h2 h3 h4 hw).trans ?_
  refine wp_mono _ _ _ fun r => ?_
  iintro ⟨H1, H2, H3, H4, ⟨%g5, H5, %h5⟩, ⟨%g6, H6, %h6⟩, %hr⟩
  subst hr
  dsimp only
  have L1 := fun β kk Q => Scf.wp_for_bind (β := β) (kk := kk) (Q := Q) frame (wpE (defs₀ (F := F)) Variants.none (c : Thread nD τ) none) Set.univ
    _ _ _ (k0_t1_ok (wordAt X1 i) (wordAt X2 i) hw) (0#32) _ _
    (step1 c i arg1 harg1 arg2 harg2 arg3 harg3 arg4 harg4 arg5 harg5 arg6 harg6 (k0_pay6 X3) (k0_pay8 X4) (wordAt X1 i) (wordAt X2 i) hw k0_pay9
      (startAcc i (arg5.view.read (Elt F) f5)))
  unfold inv1 at L1
  ihave Hl := (L1 _ _ _) $$ [H5]
  · iexists _; isplitl [H5]; · iexact H5
    ipureintro; exact h5
  iapply Hl
  iintro %a1 ⟨%k5, H5, %e5⟩
  ihave Hl := (Scf.wp_for_bind frame (wpE (defs₀ (F := F)) Variants.none (c : Thread nD τ) none) Set.univ
    _ _ _ (k0_t2_ok (wordAt X1 i) (wordAt X2 i) hw) a1 _ (fun _ _ => iprop(arg5.view.loc (c : Thread nD τ) ↦[arg5.view.set]{fullShare} k5))
    (step2 c i arg1 harg1 arg2 harg2 arg3 harg3 arg4 harg4 arg5 harg5 arg6 harg6 (k0_pay6 X3) (k0_pay8 X4) (wordAt X1 i) (wordAt X2 i) hw k0_pay9
      (arg5.view.loc (c : Thread nD τ) ↦[arg5.view.set]{fullShare} k5) (Scalar.subi (wordAt X2 i) 0#32) 1#32)) $$ [H5]
  · iexact H5
  iapply Hl
  iintro %a2 H5
  sl_step
  isplitl [H1]; · iexact H1
  isplitl [H2]; · iexact H2
  isplitl [H3]; · iexact H3
  isplitl [H4]; · iexact H4
  isplitl [H5]
  · iexists _; isplitl [H5]; · iexact H5
    ipureintro; exact e5
  iexists _; isplitl [H6]; · iexact H6
  ipureintro; exact h6

end Loops

end Cert.KernelIdeal.Main
end
-- ==== Proof.FinBody.lean ====
/-
  The one grid point of the second kernel call, on what its blocks hold.

  It reads the last 576 cells (a block of 1024, of which the rest is masked), the table and the row of logarithms the
  first call left, and the targets; it writes the three results. `fin_run` says what it writes.
-/
module

public import proofs.«01_k».proof.Proof.Gen.KernelIdeal.Skeleton
public import Idealize.ShloMosaic.Lib.Exec
public import Idealize.ShloMosaic.Lib.Tactic
public import Idealize.ShloMosaic.Lib.WritesUnit
public import Idealize.ShloMosaic.Lib.VecWindow
public import Idealize.ShloMosaic.Lib.Pipeline.Kit

@[expose] public section

noncomputable section

namespace Cert.KernelIdeal.Fin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weighted sum of the two losses. -/
def out0 (X1 : FVec F S1024 .f32) (X2 : FVec F S32x1024 .f32) (X3 : FVec F S1024x40 .f32) (X4 : FVec F S1x1024 .f32)
    (X5 : FVec F S1024x32 .f32) : FVec F S1x1 .f32 :=
  k1_pay3 (k1_pay6 X3) (k1_pay9 X4 X2) (k1_pay10 X2) (k1_pay11 X1) X5

/-- The likelihood loss. -/
def out1 (X2 : FVec F S32x1024 .f32) (X4 : FVec F S1x1024 .f32) : FVec F S1x1 .f32 := k1_pay4 (k1_pay9 X4 X2)

/-- The distance loss. -/
def out2 (X1 : FVec F S1024 .f32) (X2 : FVec F S32x1024 .f32) (X3 : FVec F S1024x40 .f32)
    (X5 : FVec F S1024x32 .f32) : FVec F S1x1 .f32 :=
  k1_pay5 (k1_pay6 X3) (k1_pay10 X2) (k1_pay11 X1) X5

variable (c : Dev nD) (i : grid1.Coords) (arg1 : Memref sig .tc .vmem S1024 .f32) (harg1 : arg1.IsWhole)
  (arg2 : Memref sig .tc .vmem S32x1024 .f32) (harg2 : arg2.IsWhole) (arg3 : Memref sig .tc .vmem S1024x40 .f32) (harg3 : arg3.IsWhole)
  (arg4 : Memref sig .tc .vmem S1x1024 .f32) (harg4 : arg4.IsWhole) (arg5 : Memref sig .tc .vmem S1024x32 .f32) (harg5 : arg5.IsWhole)
  (arg6 : Memref sig .tc .vmem S1x1 .f32) (harg6 : arg6.IsWhole) (arg7 : Memref sig .tc .vmem S1x1 .f32) (harg7 : arg7.IsWhole)
  (arg8 : Memref sig .tc .vmem S1x1 .f32) (harg8 : arg8.IsWhole)

/-- The body: the three results as above, everything read left as it was. -/
theorem fin_run (X1 : FVec F S1024 .f32) (X2 : FVec F S32x1024 .f32) (X3 : FVec F S1024x40 .f32) (X4 : FVec F S1x1024 .f32)
    (X5 : FVec F S1024x32 .f32)
    (f1 : arg1.view.ty.Contents (Elt F)) (f2 : arg2.view.ty.Contents (Elt F)) (f3 : arg3.view.ty.Contents (Elt F))
    (f4 : arg4.view.ty.Contents (Elt F)) (f5 : arg5.view.ty.Contents (Elt F)) (f6 : arg6.view.ty.Contents (Elt F))
    (f7 : arg7.view.ty.Contents (Elt F)) (f8 : arg8.view.ty.Contents (Elt F))
    (h1 : arg1.view.read (Elt F) f1 = X1) (h2 : arg2.view.read (Elt F) f2 = X2) (h3 : arg3.view.read (Elt F) f3 = X3)
    (h4 : arg4.view.read (Elt F) f4 = X4) (h5 : arg5.view.read (Elt F) f5 = X5) :
    iprop((arg1.view.loc (c : Thread nD τ) ↦[arg1.view.set]{fullShare} f1)
      ∗ (arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8))
    ⊢ wp (M := 𝕄) frame (wpE (defs₀ (F := F)) Variants.none (c : Thread nD τ) none) Set.univ
        (cc1__fin_body (F := F) i arg1 harg1 arg2 harg2 arg3 harg3 arg4 harg4 arg5 harg5 arg6 harg6 arg7 harg7 arg8 harg8)
        (fun _ => iprop((arg1.view.loc (c : Thread nD τ) ↦[arg1.view.set]{fullShare} f1)
          ∗ (arg2.view.loc (c : Thread nD τ) ↦[arg2.view.set]{fullShare} f2)
          ∗ (arg3.view.loc (c : Thread nD τ) ↦[arg3.view.set]{fullShare} f3)
          ∗ (arg4.view.loc (c : Thread nD τ) ↦[arg4.view.set]{fullShare} f4)
          ∗ (arg5.view.loc (c : Thread nD τ) ↦[arg5.view.set]{fullShare} f5)
          ∗ (∃ f, (arg6.view.loc (c : Thread nD τ) ↦[arg6.view.set]{fullShare} f) ∗ ⌜arg6.view.read (Elt F) f = out0 X1 X2 X3 X4 X5⌝)
          ∗ (∃ f, (arg7.view.loc (c : Thread nD τ) ↦[arg7.view.set]{fullShare} f) ∗ ⌜arg7.view.read (Elt F) f = out1 X2 X4⌝)
          ∗ (∃ f, (arg8.view.loc (c : Thread nD τ) ↦[arg8.view.set]{fullShare} f) ∗ ⌜arg8.view.read (Elt F) f = out2 X1 X2 X3 X5⌝))) := by
  subst h1 h2 h3 h4 h5
  have e1 := View.readAt_full (Val := Elt F) arg1.view f1 (off := ![0]) inb_S1024_S1024_0
  have e2 := View.readAt_full (Val := Elt F) arg2.view f2 (off := ![0, 0]) inb_S32x1024_S32x1024_0_0
  have e3 := View.readAt_full (Val := Elt F) arg3.view f3 (off := ![0, 0]) inb_S1024x40_S1024x40_0_0
  have e4 := View.readAt_full (Val := Elt F) arg4.view f4 (off := ![0, 0]) inb_S1x1024_S1x1024_0_0
  have e5 := View.readAt_full (Val := Elt F) arg5.view f5 (off := ![0, 0]) inb_S1024x32_S1024x32_0_0
  unfold out0 out1 out2
  rw [cc1__fin_body_eq_skeleton]
  unfold cc1__fin_body_skel
  rw [k1_part1_eq_skeleton]
  unfold k1_part1_skel
  iintro ⟨H1, H2, H3, H4, H5, H6, H7, H8⟩
  sl_exec
  sl_step
  isplitl [H1]; · iexact H1
  isplitl [H2]; · iexact H2
  isplitl [H3]; · iexact H3
  isplitl [H4]; · iexact H4
  isplitl [H5]; · iexact H5
  isplitl [H6]
  · iexists _; isplitl [H6]; · iexact H6
    ipureintro
    exact View.read_writes_full arg6.view f6 (off := ![0, 0]) inb_S1x1_S1x1_0_0 _ _
  isplitl [H7]
  · iexists _; isplitl [H7]; · iexact H7
    ipureintro
    exact View.read_writes_full arg7.view f7 (off := ![0, 0]) inb_S1x1_S1x1_0_0 _ _
  iexists _; isplitl [H8]; · iexact H8
  ipureintro
  exact View.read_writes_full arg8.view f8 (off := ![0, 0]) inb_S1x1_S1x1_0_0 _ _

end Cert.KernelIdeal.Fin
end
-- ==== Proof.MaskTail.lean ====
/-
  The last block of cells is cut: of its 1024 columns only the first 576 are cells.

  The second kernel call masks the other columns, so that what it writes depends on the first 576 alone.
-/
module

public import proofs.«01_k».proof.Proof.FinBody
public import Idealize.ShloMosaic.Lib.Pointwise

@[expose] public section

set_option maxRecDepth 16384

noncomputable section

namespace Cert.KernelIdeal.Fin

open Cert.KernelIdeal Cert.KernelIdeal.Gen
open Idealize.ShloMosaic

variable {F : FTy → Type} [FloatOps F]

/-- The mask: a column below 576. -/
theorem mask_at (n : Fin 1024) : (k1_pay7 : IVec S1x1024 1) (ix2 (0 : Fin 1) n) = if n.val < 576 then 1#1 else 0#1 := by
  unfold k1_pay7
  pointwise
  revert n
  decide +kernel

theorem pay9_congr (v : Vec F S1x1024 .f32) (X X' : Vec F S32x1024 .f32)
    (h : ∀ (r : Fin 32) (n : Fin 1024), n.val < 576 → X (ix2 r n) = X' (ix2 r n)) : k1_pay9 v X = k1_pay9 v X' := by
  have key : select k1_pay7 (shapeCast S1x1024 (multiReduction .maximumf [0] S1024 (k1_pay8 X) 0xFF800000#32 reduces_S32x1024_S1024 (.inl rfl) rfl) shapeCasts_S1024_S1x1024)
      (broadcast S1x1024 (Scalar.ofBits .f32 0x3F800000#32 : F .f32))
    = select k1_pay7 (shapeCast S1x1024 (multiReduction .maximumf [0] S1024 (k1_pay8 X') 0xFF800000#32 reduces_S32x1024_S1024 (.inl rfl) rfl) shapeCasts_S1024_S1x1024)
      (broadcast S1x1024 (Scalar.ofBits .f32 0x3F800000#32 : F .f32)) := by
    funext j
    idx_vars j
    unfold k1_pay8
    pointwise [mask_at]
    have ej : j0 = 0 := Subsingleton.elim _ _
    subst ej
    rw [mask_at]
    by_cases hn : j1.val < 576
    · rw [if_pos hn]
      have e : reduceFold reduces_S32x1024_S1024 FloatOps.maximumf (FloatOps.ofBits FTy.f32 4286578688#32) X (ix1 j1)
          = reduceFold reduces_S32x1024_S1024 FloatOps.maximumf (FloatOps.ofBits FTy.f32 4286578688#32) X' (ix1 j1) := by
        rw [reduceFold_rows, reduceFold_rows]
        have ep : ∀ r : Fin 32, (Shape.pair r ((reduces_S32x1024_S1024).col (ix1 j1)) : S32x1024.Idx) = ix2 r j1 := fun r => by
          funext a
          apply Fin.ext
          fin_cases a <;> rfl
        have ex : (fun (acc : F .f32) (r : Fin 32) => FloatOps.maximumf acc (X (Shape.pair r ((reduces_S32x1024_S1024).col (ix1 j1)))))
            = fun acc r => FloatOps.maximumf acc (X' (Shape.pair r ((reduces_S32x1024_S1024).col (ix1 j1)))) := by
          funext acc r
          rw [ep r, h r j1 hn]
        exact congrArg (fun f => List.foldl f _ (List.finRange 32)) ex
      rw [e]
    · rw [if_neg hn]; simp [Scalar.select]
  unfold k1_pay9
  dsimp only
  rw [key]

theorem pay10_congr (X X' : Vec F S32x1024 .f32)
    (h : ∀ (r : Fin 32) (n : Fin 1024), n.val < 576 → X (ix2 r n) = X' (ix2 r n)) : k1_pay10 X = k1_pay10 X' := by
  have key : select (broadcastTo S32x1024 (shapeCast S1x1024 k1_pay7 shapeCasts_S1x1024_S1x1024) broadcasts_S1x1024_S32x1024)
      (truncf .bf16 (k1_pay8 X) bitsLt_bf16_f32) (broadcast S32x1024 (Scalar.ofBits .bf16 0x0000#16 : F .bf16))
    = select (broadcastTo S32x1024 (shapeCast S1x1024 k1_pay7 shapeCasts_S1x1024_S1x1024) broadcasts_S1x1024_S32x1024)
      (truncf .bf16 (k1_pay8 X') bitsLt_bf16_f32) (broadcast S32x1024 (Scalar.ofBits .bf16 0x0000#16 : F .bf16)) := by
    funext j
    idx_vars j
    unfold k1_pay8
    pointwise [mask_at]
    by_cases hn : j1.val < 576
    · rw [h j0 j1 hn]
    · rw [if_neg hn]; simp [Scalar.select]
  unfold k1_pay10
  dsimp only
  rw [key]

theorem pay11_congr (X X' : Vec F S1024 .f32) (h : ∀ n : Fin 1024, n.val < 576 → X (ix1 n) = X' (ix1 n)) :
    k1_pay11 X = k1_pay11 X' := by
  have key : select (shapeCast S1024 k1_pay7 shapeCasts_S1x1024_S1024) (shapeCast S1024 X shapeCasts_S1024_S1024)
        (broadcast S1024 (Scalar.ofBits .f32 0xBF800000#32 : F .f32))
    = select (shapeCast S1024 k1_pay7 shapeCasts_S1x1024_S1024) (shapeCast S1024 X' shapeCasts_S1024_S1024)
        (broadcast S1024 (Scalar.ofBits .f32 0xBF800000#32 : F .f32)) := by
    funext j
    idx_vars j
    pointwise [mask_at]
    by_cases hn : j0.val < 576
    · rw [h j0 hn]
    · rw [if_neg hn]; simp [Scalar.select]
  unfold k1_pay11
  dsimp only
  rw [key]

end Cert.KernelIdeal.Fin
end
-- ==== Proof.Blocks.lean ====
/-
  The two kernel calls as the pipeline runs them: what every block holds before and after each grid point.

  The first call has 122 grid points. Its two tables of words and its blocks of cells are read only; the table of sums
  and the row of logarithms are kept from one point to the next and written back after the last.
  The second call has one grid point.
-/
module

public import proofs.«01_k».proof.Proof.MainBody
public import proofs.«01_k».proof.Proof.MaskTail
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody

@[expose] public section

set_option maxRecDepth 16384

noncomputable section

namespace Cert.KernelIdeal.Blocks

open Cert.KernelIdeal Cert.KernelIdeal.Gen Cert.KernelIdeal.Main Cert.KernelIdeal.Fin
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (W : Valuation τ sig (Elt F))

/-! ## The first call -/

/-- The array under window `w` of the first call. -/
abbrev arr0 (w : Fin cfg0.W) := W (Proc.devRef .tc (Pipeline.arrRef cfg0.spec w))

/-- The first word table, as a block. -/
def bases (t : Fin cfg0.N) : IVec S122 32 := (win0_0.blk t).view.read (Elt F) (arr0 W 0)
/-- The second word table, as a block. -/
def counts (t : Fin cfg0.N) : IVec S122 32 := (win0_1.blk t).view.read (Elt F) (arr0 W 1)
/-- The bag numbers of the point's cells. -/
def bags (t : Fin cfg0.N) : FVec F S8192 .f32 :=
  win0_2.fill (grid0.coords t) (fun _ => (FloatOps.ofBits .f32 0 : F .f32)) ((win0_2.blk t).view.read (Elt F) (arr0 W 2))
/-- The features of the point's cells, a column each. -/
def feats (t : Fin cfg0.N) : FVec F S32x8192 .f32 :=
  win0_3.fill (grid0.coords t) (fun _ => (FloatOps.ofBits .f32 0 : F .f32)) ((win0_3.blk t).view.read (Elt F) (arr0 W 3))

/-- The table of sums after a point, from the table before it. -/
def accStep (t : Fin cfg0.N) (g : FVec F S1024x40 .f32) : FVec F S1024x40 .f32 :=
  accPoint (wordAt (bases W t) (grid0.coords t)) (wordAt (counts W t) (grid0.coords t)) (bags W t) (feats W t) (startAcc (grid0.coords t) g)
/-- The row of logarithms after a point, from the row before it. -/
def mplStep (t : Fin cfg0.N) (g : FVec F S1x1024 .f32) : FVec F S1x1024 .f32 :=
  k0_pay7 (feats W t) (startMpl (grid0.coords t) g)

/-- The table of sums after point `n`. -/
def accAfter : (n : ℕ) → n < cfg0.N → FVec F S1024x40 .f32
  | 0, h => accStep W ⟨0, h⟩ k0_pay3
  | n + 1, h => accStep W ⟨n + 1, h⟩ (accAfter n (Nat.lt_of_succ_lt h))
/-- The row of logarithms after point `n`. -/
def mplAfter : (n : ℕ) → n < cfg0.N → FVec F S1x1024 .f32
  | 0, h => mplStep W ⟨0, h⟩ k0_pay4
  | n + 1, h => mplStep W ⟨n + 1, h⟩ (mplAfter n (Nat.lt_of_succ_lt h))

/-- The first call's data: its arrays as `W` holds them, and what each block holds after each point. -/
def dat0 (c : Dev nD) : Dat τ (Elt F) Unit ℕ (UR sig nD τ) ℕ cfg0 c where
  A w := arr0 W w
  after w t := match w with
    | 0 => bases W t
    | 1 => counts W t
    | 2 => bags W t
    | 3 => feats W t
    | 4 => accAfter W t.val t.isLt
    | 5 => mplAfter W t.val t.isLt
    | ⟨_ + 6, h⟩ => absurd h (Nat.not_lt.2 (Nat.le_add_left _ _))
  Φ _ := Pipeline.scopedRest spec0 c
  q _ := fullShare
  owed _ := 0

theorem coords_val : ∀ t : Fin cfg0.N, (grid0.coords t 0).val = t.val := by decide +kernel
theorem clip2_none : ∀ (t : Fin cfg0.N) (a : Fin 1), win0_2.clip (grid0.coords t) a = none := by decide +kernel
theorem clip3_none : ∀ (t : Fin cfg0.N) (a : Fin 2), win0_3.clip (grid0.coords t) a = none := by decide +kernel

theorem before_0 (c : Dev nD) (t : Fin cfg0.N) (d) : (dat0 W c).before 0 t d = bases W t :=
  ((dat0 W c).before_in_eq_fetched 0 rfl (fun _ => rfl) (fun _ _ _ => rfl) (fun _ => rfl) t d)

theorem before_1 (c : Dev nD) (t : Fin cfg0.N) (d) : (dat0 W c).before 1 t d = counts W t :=
  ((dat0 W c).before_in_eq_fetched 1 rfl (fun _ => rfl) (fun _ _ _ => rfl) (fun _ => rfl) t d)

theorem before_2 (c : Dev nD) (t : Fin cfg0.N) (d) : (dat0 W c).before 2 t d = bags W t :=
  ((dat0 W c).before_fetched 2 t (fetch0_2 t) d).trans ((dat0 W c).fetched_of_clip_none 2 t (clip2_none t) d _)

theorem before_3 (c : Dev nD) (t : Fin cfg0.N) (d) : (dat0 W c).before 3 t d = feats W t :=
  ((dat0 W c).before_fetched 3 t (fetch0_3 t) d).trans ((dat0 W c).fetched_of_clip_none 3 t (clip3_none t) d _)

theorem startAcc_zero (i : grid0.Coords) (h : (i 0).val = 0) (g g' : FVec F S1024x40 .f32) : startAcc i g = startAcc i g' := by
  unfold startAcc; rw [if_pos h, if_pos h]
theorem startMpl_zero (i : grid0.Coords) (h : (i 0).val = 0) (g g' : FVec F S1x1024 .f32) : startMpl i g = startMpl i g' := by
  unfold startMpl; rw [if_pos h, if_pos h]

theorem flush4_before (t : Fin cfg0.N) (ht : t.val ≠ 0) :
    (cfg0.win 4).flush ⟨t.val - 1, Nat.lt_of_le_of_lt (Nat.sub_le _ _) t.isLt⟩ = false := by
  rw [← Bool.not_eq_true, flush0_4]
  have h : t.val < 122 := lt_of_lt_of_eq t.isLt N_0
  dsimp only
  omega
theorem flush5_before (t : Fin cfg0.N) (ht : t.val ≠ 0) :
    (cfg0.win 5).flush ⟨t.val - 1, Nat.lt_of_le_of_lt (Nat.sub_le _ _) t.isLt⟩ = false := by
  rw [← Bool.not_eq_true, flush0_5]
  have h : t.val < 122 := lt_of_lt_of_eq t.isLt N_0
  dsimp only
  omega

/-- The table of sums after a point is one step from what the block held before it. -/
theorem acc_next (c : Dev nD) (t : Fin cfg0.N) (d) : accStep W t ((dat0 W c).before 4 t d) = accAfter W t.val t.isLt := by
  obtain ⟨n, hn⟩ := t
  cases n with
  | zero =>
    show _ = accStep W ⟨0, hn⟩ k0_pay3
    unfold accStep
    rw [startAcc_zero (grid0.coords ⟨0, hn⟩) (coords_val ⟨0, hn⟩) _ k0_pay3]
  | succ n =>
    rw [(dat0 W c).before_out_kept 4 rfl ⟨n + 1, hn⟩ (Nat.succ_ne_zero n) (flush4_before _ (Nat.succ_ne_zero n)) (fun _ => rfl) (fun _ _ => rfl) d]
    rfl

/-- The row of logarithms after a point is one step from what the block held before it. -/
theorem mpl_next (c : Dev nD) (t : Fin cfg0.N) (d) : mplStep W t ((dat0 W c).before 5 t d) = mplAfter W t.val t.isLt := by
  obtain ⟨n, hn⟩ := t
  cases n with
  | zero =>
    show _ = mplStep W ⟨0, hn⟩ k0_pay4
    unfold mplStep
    rw [startMpl_zero (grid0.coords ⟨0, hn⟩) (coords_val ⟨0, hn⟩) _ k0_pay4]
  | succ n =>
    rw [(dat0 W c).before_out_kept 5 rfl ⟨n + 1, hn⟩ (Nat.succ_ne_zero n) (flush5_before _ (Nat.succ_ne_zero n)) (fun _ => rfl) (fun _ _ => rfl) d]
    rfl

/-- The words of the two tables stay within the table of sums at every point. -/
def Fits : Prop := ∀ t : Fin cfg0.N, k0_chk1 (wordAt (bases W t) (grid0.coords t)) (wordAt (counts W t) (grid0.coords t))

/-- The body of the first call at every point. -/
theorem body0 (c : Dev nD) (hfit : Fits W) : Pipeline.BodyObligation (dat0 W c) (defs₀ (F := F)) Variants.none () Set.univ := by
  intro t
  rw [bigSep_W0, bigSep_W0]
  unfold owns
  rw [show (dat0 W c).Φ t.castSucc = Pipeline.scopedRest spec0 c from rfl, show (dat0 W c).Φ t.succ = Pipeline.scopedRest spec0 c from rfl]
  unfold Pipeline.Dat.owesAt Pipeline.owesWithin
  rw [show (dat0 W c).owed t.castSucc = 0 from rfl, show (dat0 W c).owed t.succ = 0 from rfl]
  iintro ⟨HΦ, ⟨%D, %hD, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_0] at h0
  rw [before_1] at h1
  rw [before_2] at h2
  rw [before_3] at h3
  have e4 := acc_next W c t d4
  have e5 := mpl_next W c t d5
  rw [← h4] at e4
  rw [← h5] at e5
  ihave Hw := (point_run c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3))
    _ (hstage0_4 ((cfg0.slots t 4).cast nbuf0_4)) _ (hstage0_5 ((cfg0.slots t 5).cast nbuf0_5))
    (bases W t) (counts W t) (bags W t) (feats W t) f0 f1 f2 f3 f4 f5 h0 h1 h2 h3 (hfit t)) $$ [H0 H1 H2 H3 H4 H5]
  · isplitl [H0]; · iexact H0
    isplitl [H1]; · iexact H1
    isplitl [H2]; · iexact H2
    isplitl [H3]; · iexact H3
    isplitl [H4]; · iexact H4
    iexact H5
  ihave Hx := (wp_wand frame (wpE (defs₀ (F := F)) Variants.none (c : Thread nD τ) none) Set.univ) $$ Hw
  iapply Hx
  iintro %a ⟨H0, H1, H2, H3, ⟨%g4, H4, %k4⟩, ⟨%g5, H5, %k5⟩⟩
  isplitl [HΦ]; · iexact HΦ
  isplitl [HO]
  · iexists D; isplitr; · ipureintro; exact fun _ _ => Or.inl trivial
    iexact HO
  isplitl [H0]
  · iexists f0; isplitr; swap; (· iexact H0); ipureintro; exact h0
  isplitl [H1]
  · iexists f1; isplitr; swap; (· iexact H1); ipureintro; exact h1
  isplitl [H2]
  · iexists f2; isplitr; swap; (· iexact H2); ipureintro; exact h2
  isplitl [H3]
  · iexists f3; isplitr; swap; (· iexact H3); ipureintro; exact h3
  isplitl [H4]
  · iexists g4; isplitr; swap; (· iexact H4); ipureintro; exact k4.trans e4
  iexists g5; isplitr; swap; (· iexact H5); ipureintro; exact k5.trans e5

end Cert.KernelIdeal.Blocks
end
-- ==== Proof.Blocks1.lean ====
/-
  The second kernel call as the pipeline runs it: one grid point, which reads the cut last block of cells, the table of
  sums, the row of logarithms and the targets, and writes the three results.
-/
module

public import proofs.«01_k».proof.Proof.Blocks

@[expose] public section

set_option maxRecDepth 16384

noncomputable section

namespace Cert.KernelIdeal.Blocks

open Cert.KernelIdeal Cert.KernelIdeal.Gen Cert.KernelIdeal.Main Cert.KernelIdeal.Fin
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (W : Valuation τ sig (Elt F))

/-- The array under window `w` of the second call. -/
abbrev arr1 (w : Fin cfg1.W) := W (Proc.devRef .tc (Pipeline.arrRef cfg1.spec w))

/-- The bag numbers of the last cells, zero past the last one. -/
def tailBags (t : Fin cfg1.N) : FVec F S1024 .f32 :=
  win1_0.fill (grid1.coords t) (fun _ => (FloatOps.ofBits .f32 0 : F .f32)) ((win1_0.blk t).view.read (Elt F) (arr1 W 0))
/-- The features of the last cells, zero past the last one. -/
def tailFeats (t : Fin cfg1.N) : FVec F S32x1024 .f32 :=
  win1_1.fill (grid1.coords t) (fun _ => (FloatOps.ofBits .f32 0 : F .f32)) ((win1_1.blk t).view.read (Elt F) (arr1 W 1))
/-- The table of sums. -/
def sums (t : Fin cfg1.N) : FVec F S1024x40 .f32 := (win1_2.blk t).view.read (Elt F) (arr1 W 2)
/-- The row of logarithms. -/
def logs (t : Fin cfg1.N) : FVec F S1x1024 .f32 := (win1_3.blk t).view.read (Elt F) (arr1 W 3)
/-- The targets. -/
def targets (t : Fin cfg1.N) : FVec F S1024x32 .f32 := (win1_4.blk t).view.read (Elt F) (arr1 W 4)

/-- The second call's data. -/
def dat1 (c : Dev nD) : Dat τ (Elt F) Unit ℕ (UR sig nD τ) ℕ cfg1 c where
  A w := arr1 W w
  after w t := match w with
    | 0 => tailBags W t
    | 1 => tailFeats W t
    | 2 => sums W t
    | 3 => logs W t
    | 4 => targets W t
    | 5 => out0 (tailBags W t) (tailFeats W t) (sums W t) (logs W t) (targets W t)
    | 6 => out1 (tailFeats W t) (logs W t)
    | 7 => out2 (tailBags W t) (tailFeats W t) (sums W t) (targets W t)
    | ⟨_ + 8, h⟩ => absurd h (Nat.not_lt.2 (Nat.le_add_left _ _))
  Φ _ := Pipeline.scopedRest spec1 c
  q _ := fullShare
  owed _ := 0

theorem moved_bags : ∀ (t : Fin cfg1.N) (n : Fin 1024), n.val < 576 → win1_0.moved (grid1.coords t) (ix1 n) = true := by
  intro t n hn
  rw [win1_0.moved_iff]
  intro a
  have hx : ∀ (t : Fin cfg1.N) (a : Fin 1), win1_0.xsize (grid1.coords t) a = 576 := by decide +kernel
  rw [hx t a]
  fin_cases a
  exact hn

theorem moved_feats : ∀ (t : Fin cfg1.N) (r : Fin 32) (n : Fin 1024), n.val < 576 → win1_1.moved (grid1.coords t) (ix2 r n) = true := by
  intro t r n hn
  rw [win1_1.moved_iff]
  intro a
  have hx : ∀ (t : Fin cfg1.N), win1_1.xsize (grid1.coords t) 0 = 32 ∧ win1_1.xsize (grid1.coords t) 1 = 576 := by decide +kernel
  fin_cases a
  · exact lt_of_lt_of_eq r.isLt (hx t).1.symm
  · exact lt_of_lt_of_eq hn (hx t).2.symm

theorem tail_0 (c : Dev nD) (t : Fin cfg1.N) (d) (n : Fin 1024) (hn : n.val < 576) :
    ((dat1 W c).before 0 t d : FVec F S1024 .f32) (ix1 n) = tailBags W t (ix1 n) := by
  rw [(dat1 W c).before_fetched 0 t (fetch1_0 t) d]
  unfold Pipeline.Dat.fetched tailBags Pipeline.Window.fill
  rw [dif_pos (moved_bags t n hn), dif_pos (moved_bags t n hn)]
  rfl

theorem tail_1 (c : Dev nD) (t : Fin cfg1.N) (d) (r : Fin 32) (n : Fin 1024) (hn : n.val < 576) :
    ((dat1 W c).before 1 t d : FVec F S32x1024 .f32) (ix2 r n) = tailFeats W t (ix2 r n) := by
  rw [(dat1 W c).before_fetched 1 t (fetch1_1 t) d]
  unfold Pipeline.Dat.fetched tailFeats Pipeline.Window.fill
  rw [dif_pos (moved_feats t r n hn), dif_pos (moved_feats t r n hn)]
  rfl

theorem before1_2 (c : Dev nD) (t : Fin cfg1.N) (d) : (dat1 W c).before 2 t d = sums W t :=
  (dat1 W c).before_fetched 2 t (fetch1_2 t) d
theorem before1_3 (c : Dev nD) (t : Fin cfg1.N) (d) : (dat1 W c).before 3 t d = logs W t :=
  (dat1 W c).before_fetched 3 t (fetch1_3 t) d
theorem before1_4 (c : Dev nD) (t : Fin cfg1.N) (d) : (dat1 W c).before 4 t d = targets W t :=
  (dat1 W c).before_fetched 4 t (fetch1_4 t) d

theorem left_0 (c : Dev nD) (t : Fin cfg1.N) (d) :
    (dat1 W c).before 0 t d = (cfg1.win 0).fill (cfg1.grid.coords t) d ((cfg1.win 0).cut (cfg1.grid.coords t) ((dat1 W c).after 0 t)) := by
  rw [(dat1 W c).before_fetched 0 t (fetch1_0 t) d]
  have e : (cfg1.win 0).cut (cfg1.grid.coords t) ((dat1 W c).after 0 t) = (dat1 W c).blockOf 0 t := by
    dsimp only [dat1]
    unfold tailBags
    exact win1_0.cut_fill (grid1.coords t) _ _
  unfold Pipeline.Dat.fetched
  rw [e]

theorem left_1 (c : Dev nD) (t : Fin cfg1.N) (d) :
    (dat1 W c).before 1 t d = (cfg1.win 1).fill (cfg1.grid.coords t) d ((cfg1.win 1).cut (cfg1.grid.coords t) ((dat1 W c).after 1 t)) := by
  rw [(dat1 W c).before_fetched 1 t (fetch1_1 t) d]
  have e : (cfg1.win 1).cut (cfg1.grid.coords t) ((dat1 W c).after 1 t) = (dat1 W c).blockOf 1 t := by
    dsimp only [dat1]
    unfold tailFeats
    exact win1_1.cut_fill (grid1.coords t) _ _
  unfold Pipeline.Dat.fetched
  rw [e]

/-- The body of the second call. -/
theorem body1 (c : Dev nD) : Pipeline.BodyObligationLoose (dat1 W c) (defs₀ (F := F)) Variants.none () Set.univ := by
  intro t
  rw [bigSep_W1, bigSep_W1]
  dsimp only
  unfold owns
  rw [show (dat1 W c).Φ t.castSucc = Pipeline.scopedRest spec1 c from rfl, show (dat1 W c).Φ t.succ = Pipeline.scopedRest spec1 c from rfl]
  unfold Pipeline.Dat.owesAt Pipeline.owesWithin
  rw [show (dat1 W c).owed t.castSucc = 0 from rfl, show (dat1 W c).owed t.succ = 0 from rfl]
  iintro ⟨HΦ, ⟨%D, %hD, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  rw [before1_2] at h2
  rw [before1_3] at h3
  rw [before1_4] at h4
  have t0 := tail_0 W c t d0
  have t1 := tail_1 W c t d1
  have e9 : k1_pay9 (logs W t) ((dat1 W c).before 1 t d1) = k1_pay9 (logs W t) (tailFeats W t) := pay9_congr _ _ _ t1
  have e10 : k1_pay10 ((dat1 W c).before 1 t d1 : FVec F S32x1024 .f32) = k1_pay10 (tailFeats W t) := pay10_congr _ _ t1
  have e11 : k1_pay11 ((dat1 W c).before 0 t d0 : FVec F S1024 .f32) = k1_pay11 (tailBags W t) := pay11_congr _ _ t0
  ihave Hw := (fin_run c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3))
    _ (hstage1_4 ((cfg1.slots t 4).cast nbuf1_4)) _ (hstage1_5 ((cfg1.slots t 5).cast nbuf1_5))
    _ (hstage1_6 ((cfg1.slots t 6).cast nbuf1_6)) _ (hstage1_7 ((cfg1.slots t 7).cast nbuf1_7))
    ((dat1 W c).before 0 t d0) ((dat1 W c).before 1 t d1) (sums W t) (logs W t) (targets W t) f0 f1 f2 f3 f4 f5 f6 f7 h0 h1 h2 h3 h4) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ihave Hx := (wp_wand frame (wpE (defs₀ (F := F)) Variants.none (c : Thread nD τ) none) Set.univ) $$ Hw
  iapply Hx
  iintro %a ⟨H0, H1, H2, H3, H4, ⟨%g5, H5, %k5⟩, ⟨%g6, H6, %k6⟩, ⟨%g7, H7, %k7⟩⟩
  unfold out0 at k5
  unfold out1 at k6
  unfold out2 at k7
  rw [e9, e10, e11] at k5
  rw [e9] at k6
  rw [e10, e11] at k7
  isplitl [HΦ]; · iexact HΦ
  isplitl [HO]
  · iexists D; isplitr; · ipureintro; exact fun _ _ => Or.inl trivial
    iexact HO
  isplitl [H0]
  · iexists d0; iexists f0; isplitr; swap; (· iexact H0); ipureintro; exact h0.trans (left_0 W c t d0)
  isplitl [H1]
  · iexists d1; iexists f1; isplitr; swap; (· iexact H1); ipureintro; exact h1.trans (left_1 W c t d1)
  isplitl [H2]
  · iexists f2; isplitr; swap; (· iexact H2); ipureintro; exact h2
  isplitl [H3]
  · iexists f3; isplitr; swap; (· iexact H3); ipureintro; exact h3
  isplitl [H4]
  · iexists f4; isplitr; swap; (· iexact H4); ipureintro; exact h4
  isplitl [H5]
  · iexists g5; isplitr; swap; (· iexact H5); ipureintro; exact k5
  isplitl [H6]
  · iexists g6; isplitr; swap; (· iexact H6); ipureintro; exact k6
  iexists g7; isplitr; swap; (· iexact H7); ipureintro; exact k7

end Cert.KernelIdeal.Blocks
end
-- ==== Proof.Launch.lean ====
/-
  The whole program's run: the host operations, the two kernel calls, the host operations after them.

  `run` says that every execution ends, with every counter at zero and every array of the program as `W8` holds it.
-/
module

public import proofs.«01_k».proof.Proof.Blocks1
public import proofs.«01_k».proof.Proof.Gen.KernelIdeal.Regions
public import Idealize.ShloMosaic.Lib.Pipeline.RegionArraysS

@[expose] public section

set_option maxRecDepth 16384

noncomputable section

namespace Cert.KernelIdeal.Blocks

open Cert.KernelIdeal Cert.KernelIdeal.Gen Cert.KernelIdeal.Main Cert.KernelIdeal.Fin
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The arrays after the first call. -/
def W6 (c : Dev nD) : Valuation τ sig (Elt F) := Pipeline.afterRegion (dat0 (V5 m c) c) (V5 m c)
/-- The arrays after the second call. -/
def W7 (c : Dev nD) : Valuation τ sig (Elt F) := Pipeline.afterRegion (dat1 (W6 m c) c) (W6 m c)
/-- The arrays at the end. -/
def W8 (c : Dev nD) : Valuation τ sig (Elt F) := StableHlo.after hostOps2 (W7 m c)

/-- The two calls' data. -/
def pdats (p : Fin 2) (c : Dev nD) : Dat τ (Elt F) Unit ℕ (UR sig nD τ) ℕ (cfgs p) c := match p with
  | 0 => dat0 (V5 m c) c
  | 1 => dat1 (W6 m c) c
  | ⟨_ + 2, h⟩ => absurd h (Nat.not_lt.2 (Nat.le_add_left _ _))

/-- No core owes another anything. -/
abbrev L : GSem nD τ sig → Finset Unit := fun g => if g.1.2 = .tc then {()} else ∅
abbrev lv : GSem nD τ sig → Unit → ℕ := fun _ _ => 0
/-- What rides beside the arrays. -/
abbrev E (c : Dev nD) : sProp 𝕄 := iprop(∃ D, owes (c : Thread nD τ) (0 : CellTallies nD τ sig Unit) D)

theorem cut (p : Fin 2) : Pipeline.LevelCut (pcfgs (F := F)) adm () L lv p (fun _ : Dev nD => (0 : CellTallies nD τ sig Unit)) (fun _ => 0) where
  hι _ _ _ := by simp [L]
  hιb _ _ _ := le_refl _
  hD _ _ _ h := absurd h (Nat.lt_irrefl 0)

set_option backward.isDefEq.respectTransparency.types false in
/-- The first call's region: it takes the arrays from `V5` to `W6`. -/
def reg0 (hfit : ∀ c, Fits (V5 m c)) : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (body0 (V5 m c) c (hfit c)).loose)
    (fun _ _ => rfl) (fun _ => rfl) (fun c w => (pdats m 0 c).share_full (fun _ => rfl) w)
    (fun c => by
      show _ ⊢ Pipeline.scopedRest spec0 c
      iintro ⟨H, -⟩; iexact H)
    (fun c => by
      show Pipeline.scopedRest spec0 c ⊢ _
      iintro H
      isplitl [H]; · iexact H
      iempintro)
    (fun _ => 0) (cut 0) (fun _ => iprop(emp)) (V5 m) (fun c w => rfl)

set_option backward.isDefEq.respectTransparency.types false in
/-- The second call's region: it takes the arrays from `W6` to `W7`. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => body1 (W6 m c) c)
    (fun _ _ => rfl) (fun _ => rfl) (fun c w => (pdats m 1 c).share_full (fun _ => rfl) w)
    (fun c => by
      show _ ⊢ Pipeline.scopedRest spec1 c
      iintro ⟨H, -⟩; iexact H)
    (fun c => by
      show Pipeline.scopedRest spec1 c ⊢ _
      iintro H
      isplitl [H]; · iexact H
      iempintro)
    (fun _ => 0) (cut 1) (fun _ => iprop(emp)) (W6 m) (fun c w => rfl)

theorem sub0 : Pipeline.arrRefs (τ := τ) (pcfgs (F := F) 0).spec ⊆ Pipeline.ucRefs τ sig :=
  Pipeline.arrRefs_sub_ucRefs _ launch0.win.arr_unscoped
theorem sub1 : Pipeline.arrRefs (τ := τ) (pcfgs (F := F) 1).spec ⊆ Pipeline.ucRefs τ sig :=
  Pipeline.arrRefs_sub_ucRefs _ launch1.win.arr_unscoped

/-- The host operations after the second call. -/
def last : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W7 m) E

/-- The program as its stretches. -/
abbrev parts (hfit : ∀ c, Fits (V5 m c)) (c : Dev nD) : List (Seg (pcfgs (F := F)) adm (pdats m) () defs₀ Variants.none L lv) :=
  [.host (seg0 m Variants.none L lv fun _ => E), .host (seg1 m Variants.none L lv fun _ => E), .host (seg2 m Variants.none L lv fun _ => E),
    .host (seg3 m Variants.none L lv fun _ => E), .host (seg4 m Variants.none L lv fun _ => E), .region (reg0 m hfit), .region (reg1 m), .host (last m)]

theorem enter0 (hfit : ∀ c, Fits (V5 m c)) (c : Dev nD) :
    iprop(StableHlo.held (c : Thread nD τ) (Pipeline.ucRefs τ sig) (V5 m c) ∗ E c) ⊢ (reg0 m hfit).pre c := by
  refine BIBase.Entails.trans ?_ (RegionSeg.ofHeldIn_pre sub0 c)
  iintro ⟨H, HE⟩
  isplitl [H]; · iexact H
  isplitl [HE]; · iexact HE
  isplitr <;> iempintro

theorem leave0 (hfit : ∀ c, Fits (V5 m c)) (c : Dev nD) :
    (reg0 m hfit).post c ⊢ iprop(StableHlo.held (c : Thread nD τ) (Pipeline.ucRefs τ sig) (W6 m c) ∗ E c) := by
  refine (RegionSeg.ofHeldIn_post sub0 c).trans ?_
  iintro ⟨H, HE, -, -⟩
  isplitl [H]; · iexact H
  iexact HE

theorem enter1 (c : Dev nD) :
    iprop(StableHlo.held (c : Thread nD τ) (Pipeline.ucRefs τ sig) (W6 m c) ∗ E c) ⊢ (reg1 m).pre c := by
  refine BIBase.Entails.trans ?_ (RegionSeg.ofHeldIn_pre sub1 c)
  iintro ⟨H, HE⟩
  isplitl [H]; · iexact H
  isplitl [HE]; · iexact HE
  isplitr <;> iempintro

theorem leave1 (c : Dev nD) :
    (reg1 m).post c ⊢ iprop(StableHlo.held (c : Thread nD τ) (Pipeline.ucRefs τ sig) (W7 m c) ∗ E c) := by
  refine (RegionSeg.ofHeldIn_post sub1 c).trans ?_
  iintro ⟨H, HE, -, -⟩
  isplitl [H]; · iexact H
  iexact HE

set_option backward.isDefEq.respectTransparency.types false in
/-- Every execution ends with every counter at zero and every array as `W8` holds it. -/
theorem run (ρ : Dev nD → PrngReg) (hfit : ∀ c, Fits (V5 m c)) :
    θ_run defs (onTc (τ := τ) (main (F := F))) ⟨m, fun _ => 0, ρ⟩ (fun r =>
      (∀ c : Dev nD, ∀ b ∈ Pipeline.ucRefs τ sig, r.2.mem (c, b) = W8 m c b) ∧ r.2.sem = fun _ => 0) := by
  refine Pipeline.θ_run_regions_kit_dev_sems (pcfgs (F := F)) adm (pdats m) () cellOf_inj emb₁ defs₀ Variants.none L lv m ρ main
    (parts m hfit)
    (fun c Q => by
      rewrite [main_chain c, Seg.run_eq_chain,
        show (parts m hfit c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      dsimp (config := { failIfUnchanged := false }) only
      exact .rfl)
    (fun c => by simp only [parts, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (W8 m c))
    (hch := fun c => ⟨.rfl, .rfl, .rfl, .rfl, .rfl, enter0 m hfit c, (leave0 m hfit c).trans (enter1 m c), leave1 m c, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = W8 m c b)
    (hfin := fun c s' => by
      unfold StableHlo.held
      iintro ⟨Hh, HSI⟩
      ihave Hr := (pointsTo_read_all (Pipeline.ucRefs τ sig) (fun b => ((c : Thread nD τ).1, b)) (W8 m c) s') $$ [Hh HSI]
      · isplitl [Hh] <;> iassumption
      icases Hr with ⟨%h, HSI⟩
      imodintro
      isplitr
      · ipureintro; exact h
      iexact HSI)
    (hQ := fun _ h hz => ⟨h, funext fun g => hz g (.inr (regions_no_unscoped g.2))⟩)

end Cert.KernelIdeal.Blocks
end
-- ==== Proof.Given.lean ====
/-
  What the precondition says, element by element: every bag number is in 0..1023 and the numbers ascend.
-/
module

public import proofs.«01_k».proof.Pre_sorted_bags
public import proofs.«01_k».proof.Proof.Gen.Pre_sorted_bags
public import Idealize.ShloMosaic.Lib.ReduceAll
public import Idealize.ShloMosaic.Lib.Pointwise
public import Idealize.ShloMosaic.Lib.Affine
public import Idealize.ShloMosaic.Lib.Routing.BitFacts

@[expose] public section

set_option maxRecDepth 16384

noncomputable section

namespace Cert.Given

open Cert.Pre_sorted_bags Cert.Pre_sorted_bags.Gen
open Idealize.ShloMosaic

variable {F : FTy → Type} [FloatOps F]

/-- Cell `n`'s bag number, as a natural number; past the last cell 0. -/
def bag (X : IVec S1000000 32) (n : ℕ) : ℕ := if h : n < 1000000 then (X (ix1 ⟨n, h⟩)).toNat else 0

theorem bag_of_lt (X : IVec S1000000 32) {n : ℕ} (h : n < 1000000) : bag X n = (X (ix1 ⟨n, h⟩)).toNat := dif_pos h

/-- A cell's word is the word of its bag number. -/
theorem word_eq (X : IVec S1000000 32) {n : ℕ} (h : n < 1000000) : X (ix1 ⟨n, h⟩) = BitVec.ofNat 32 (bag X n) := by
  rw [bag_of_lt X h, BitVec.ofNat_toNat, BitVec.setWidth_eq]

/-- In range and ascending. -/
structure Sorted (X : IVec S1000000 32) : Prop where
  lt : ∀ n, bag X n < 1024
  step : ∀ n, n + 1 < 1000000 → bag X n ≤ bag X (n + 1)

theorem Sorted.mono {X : IVec S1000000 32} (hX : Sorted X) {a b : ℕ} (hab : a ≤ b) (hb : b < 1000000) : bag X a ≤ bag X b := by
  induction b, hab using Nat.le_induction with
  | base => exact le_refl _
  | succ b _ ih => exact (ih (by omega)).trans (hX.step b hb)

theorem toNat_of_nonneg {x : BitVec 32} (h : 0 ≤ x.toInt) : (x.toNat : ℤ) = x.toInt := by
  rw [BitVec.toInt_eq_toNat_cond] at h ⊢
  have := x.isLt
  split_ifs at h ⊢ <;> omega

/-- The precondition gives range and order. -/
theorem sorted_of_pre (x : FVec F S1000000x32 .f32) (X : IVec S1000000 32) (y : FVec F S1024x32 .f32)
    (h : Cert.Pre_sorted_bags.fn (F := F) x X y = fun _ => 1#1) : Sorted X := by
  have h0 := congrFun h ix0
  unfold Cert.Pre_sorted_bags.fn at h0
  have h1 := (IntOp.andi_eq_one).1 h0
  obtain ⟨hr, hs⟩ := h1
  have hr' := fun i => (Host.reduce_andi_all _ _ _ _ _ hr i)
  have hs' := fun i => (Host.reduce_andi_all _ _ _ _ _ hs i)
  have hlo : ∀ i, 0 ≤ (X i).toInt := fun i => IntOp.cmpi_sge.1 ((IntOp.andi_eq_one).1 (hr' i)).1
  have hhi : ∀ i, (X i).toInt < 1024 := fun i => IntOp.cmpi_slt.1 ((IntOp.andi_eq_one).1 (hr' i)).2
  refine ⟨fun n => ?_, fun n hn => ?_⟩
  · unfold bag
    split_ifs with h
    · have a := hhi (ix1 ⟨n, h⟩)
      have b := toNat_of_nonneg (hlo (ix1 ⟨n, h⟩))
      omega
    · decide
  · rw [bag_of_lt X (by omega : n < 1000000), bag_of_lt X hn]
    have a := hs' (ix1 ⟨n, by omega⟩)
    have b := IntOp.cmpi_sle.1 a
    have e1 : extractStridedSlice S999999 ![0] X slices_S1000000_S999999_0 (ix1 ⟨n, by omega⟩) = X (ix1 ⟨n, by omega⟩) := by
      pointwise
    have e2 : extractStridedSlice S999999 ![1] X slices_S1000000_S999999_1 (ix1 ⟨n, by omega⟩) = X (ix1 ⟨n + 1, hn⟩) := by
      pointwise
      exact congrArg (fun k => X (ix1 k)) (Fin.ext (Nat.add_comm 1 n))
    have c1 := toNat_of_nonneg (hlo (ix1 ⟨n, by omega⟩))
    have c2 := toNat_of_nonneg (hlo (ix1 ⟨n + 1, hn⟩))
    have b' : (X (ix1 ⟨n, by omega⟩)).toInt ≤ (X (ix1 ⟨n + 1, hn⟩)).toInt := e1 ▸ e2 ▸ b
    omega

end Cert.Given

end
-- ==== Proof.Tables.lean ====
/-
  The two word tables the first call reads, entry by entry: where point `t`'s windows of 32 bags start (its first cell's bag
  number rounded down to a multiple of 32) and how many of them there are (up to its last cell's bag number). Both are computed
  on the host from the bag numbers; in range, they make every access of the first call fit.
-/
module

public import proofs.«01_k».proof.Proof.Launch
public import proofs.«01_k».proof.Proof.Given
public import Idealize.ShloMosaic.Lib.Routing.OpsSearch
public import Idealize.ShloMosaic.Lib.Pointwise.IndexBridge
public import Idealize.ShloMosaic.Lib.StableHlo.ReadAt

@[expose] public section

set_option maxRecDepth 16384

noncomputable section

namespace Cert.KernelIdeal.Tables

open Cert.KernelIdeal Cert.KernelIdeal.Gen Cert.KernelIdeal.Main Cert.KernelIdeal.Blocks Cert.Given
open Idealize.ShloMosaic Idealize.ShloMosaic.TcCoe
open Idealize.SL.Sem

variable {F : FTy → Type} [FloatOps F]
variable (m : (ℓ : Loc nD τ sig) → Buf (Elt F) ℓ) (c : Dev nD)

/-- The bag numbers as the program is given them. -/
def given : IVec S1000000 32 := m ((c.tc : Thread nD τ).loc main_arg1)

/-! ## The two gathers -/

/-- Where point `p`'s cells start, as the program computes it (a negative start would count from the end). -/
theorem start_word (p : Fin 122) :
    Scalar.select (IntOp.cmpi .slt (IntOp.muli (BitVec.ofNat 32 p.val) 8192#32) 0#32)
      (IntOp.addi (IntOp.muli (BitVec.ofNat 32 p.val) 8192#32) 1000000#32) (IntOp.muli (BitVec.ofNat 32 p.val) 8192#32)
      = BitVec.ofNat 32 (8192 * p.val) := by
  revert p; decide
/-- Where point `p`'s cells end. -/
theorem stop_word (p : Fin 122) :
    Scalar.select (IntOp.cmpi .slt (IntOp.subi (IntOp.addi (IntOp.muli (BitVec.ofNat 32 p.val) 8192#32) 8192#32) 1#32) 0#32)
      (IntOp.addi (IntOp.subi (IntOp.addi (IntOp.muli (BitVec.ofNat 32 p.val) 8192#32) 8192#32) 1#32) 1000000#32)
      (IntOp.subi (IntOp.addi (IntOp.muli (BitVec.ofNat 32 p.val) 8192#32) 8192#32) 1#32)
      = BitVec.ofNat 32 (8192 * p.val + 8191) := by
  revert p; decide

theorem V1_v10 (p : Fin 122) : V1 m c main_v10 (ix2 p (0 : Fin 1)) = BitVec.ofNat 32 (8192 * p.val) := by
  refine Eq.trans ?_ (start_word p)
  unfold V1
  after_reads_at
theorem V1_v21 (p : Fin 122) : V1 m c main_v21 (ix2 p (0 : Fin 1)) = BitVec.ofNat 32 (8192 * p.val + 8191) := by
  refine Eq.trans ?_ (stop_word p)
  unfold V1
  after_reads_at

theorem V1_v11 : V1 m c main_v11
    = Host.gather gather_S1000000_S122x1_S122_n_0_n_n_0_1_1 (given m c) (V1 m c main_v10) := by
  unfold V1
  after_reads_simp
  rfl
theorem V1_v22 : V1 m c main_v22
    = Host.gather gather_S1000000_S122x1_S122_n_0_n_n_0_1_1 (given m c) (V1 m c main_v21) := by
  unfold V1
  after_reads_simp
  rfl

/-- Point `p`'s first bag number. -/
theorem first_at (p : Fin 122) : V1 m c main_v11 (ix1 p) = BitVec.ofNat 32 (bag (given m c) (8192 * p.val)) := by
  have hp := p.isLt
  rw [V1_v11, ix1_eq_valueIdx,
    Routing.take_ap gather_S1000000_S122x1_S122_n_0_n_n_0_1_1 rfl rfl rfl rfl (given m c) (V1 m c main_v10) p (k := 8192 * p.val)
      (by omega) (by omega) (by rw [← ix2_eq_valueIdx]; exact V1_v10 m c p), ← ix1_eq_valueIdx]
  exact word_eq (given m c) (by omega)
/-- Point `p`'s last bag number. -/
theorem last_at (p : Fin 122) : V1 m c main_v22 (ix1 p) = BitVec.ofNat 32 (bag (given m c) (8192 * p.val + 8191)) := by
  have hp := p.isLt
  rw [V1_v22, ix1_eq_valueIdx,
    Routing.take_ap gather_S1000000_S122x1_S122_n_0_n_n_0_1_1 rfl rfl rfl rfl (given m c) (V1 m c main_v21) p (k := 8192 * p.val + 8191)
      (by omega) (by omega) (by rw [← ix2_eq_valueIdx]; exact V1_v21 m c p), ← ix1_eq_valueIdx]
  exact word_eq (given m c) (by omega)

/-! ## The quotients by 32 -/

theorem V1_c6 : V1 m c main_c_6 = constantI S_ 32 32#32 := by unfold V1; after_reads_simp
theorem V3_c8 : V3 m c main_c_8 = constantI S_ 32 32#32 := by unfold V3; after_reads_simp

theorem V2_v23 : V2 m c main_v23 = Routing.pyDiv bcast_S_S122 (V1 m c main_v11) (V1 m c main_c_6) := by
  unfold V2
  after_reads_simp
  rfl
theorem V4_v27 : V4 m c main_v27 = Routing.pyDiv bcast_S_S122 (V3 m c main_v26) (V3 m c main_c_8) := by
  unfold V4
  after_reads_simp
  rfl

/-- Where point `p`'s windows start. -/
def lowBag (X : IVec S1000000 32) (p : ℕ) : ℕ := bag X (8192 * p) / 32 * 32
/-- How many windows point `p` has. -/
def winCount (X : IVec S1000000 32) (p : ℕ) : ℕ := (bag X (8192 * p + 8191) - lowBag X p) / 32 + 1

variable {m c}
variable (hX : Sorted (given m c))
include hX

/-- Where point `t`'s windows start. -/
theorem base_at (p : Fin 122) : V5 m c main_v25 (ix1 p) = BitVec.ofNat 32 (lowBag (given m c) p.val) := by
  have h23 : V2 m c main_v23 (ix1 p) = BitVec.ofNat 32 (bag (given m c) (8192 * p.val) / 32) := by
    rw [V2_v23, V1_c6]
    exact Routing.pyDiv_ap _ _ _ _ (first_at m c p) rfl (lt_trans (hX.lt _) (by decide)) (by decide) (by decide)
  rw [V5_of m c main_v25 (by decide), V4_of m c main_v25 (by decide)]
  have e : V3 m c main_v25 (ix1 p) = IntOp.muli (V2 m c main_v23 (ix1 p)) 32#32 := by
    unfold V3
    after_reads_at
  rw [e, h23]
  unfold lowBag
  exact (BitVec.ofNat_mul ..).symm

/-- How many windows point `t` has. -/
theorem count_at (p : Fin 122) : V5 m c main_v29 (ix1 p) = BitVec.ofNat 32 (winCount (given m c) p.val) := by
  have hp := p.isLt
  have hle : lowBag (given m c) p.val ≤ bag (given m c) (8192 * p.val + 8191) :=
    (Nat.div_mul_le_self _ _).trans (hX.mono (by omega) (by omega))
  have hlt := hX.lt (8192 * p.val + 8191)
  have h25 : V3 m c main_v25 (ix1 p) = BitVec.ofNat 32 (lowBag (given m c) p.val) := by
    rw [← base_at hX p, V5_of m c main_v25 (by decide), V4_of m c main_v25 (by decide)]
  have e22 : V2 m c main_v22 (ix1 p) = BitVec.ofNat 32 (bag (given m c) (8192 * p.val + 8191)) := by
    rw [V2_of m c main_v22 (by decide)]; exact last_at m c p
  have e26 : V3 m c main_v26 (ix1 p) = IntOp.subi (V2 m c main_v22 (ix1 p)) (V3 m c main_v25 (ix1 p)) := by
    unfold V3
    after_reads_at
  have h26 : V3 m c main_v26 (ix1 p) = BitVec.ofNat 32 (bag (given m c) (8192 * p.val + 8191) - lowBag (given m c) p.val) := by
    rw [e26, e22, h25]
    apply BitVec.eq_of_toNat_eq
    show ((BitVec.ofNat 32 _) - (BitVec.ofNat 32 _)).toNat = _
    simp only [BitVec.toNat_sub, BitVec.toNat_ofNat]
    omega
  have h27 : V4 m c main_v27 (ix1 p) = BitVec.ofNat 32 ((bag (given m c) (8192 * p.val + 8191) - lowBag (given m c) p.val) / 32) := by
    rw [V4_v27, V3_c8]
    exact Routing.pyDiv_ap _ _ _ _ h26 rfl (by omega) (by decide) (by decide)
  have e : V5 m c main_v29 (ix1 p) = IntOp.addi (V4 m c main_v27 (ix1 p)) 1#32 := by
    unfold V5
    after_reads_at
  rw [e, h27]
  unfold winCount
  exact (BitVec.ofNat_add ..).symm

end Cert.KernelIdeal.Tables

end
-- ==== Proof.Fit.lean ====
/-
  Every access of the first call fits: a point's windows of 32 bags end at row 1024 at the latest.
-/
module

public import proofs.«01_k».proof.Proof.Tables

@[expose] public section

set_option maxRecDepth 16384

noncomputable section

namespace Cert.KernelIdeal.Tables

open Cert.KernelIdeal Cert.KernelIdeal.Gen Cert.KernelIdeal.Main Cert.KernelIdeal.Blocks Cert.Given
open Idealize.ShloMosaic Idealize.ShloMosaic.TcCoe
open Idealize.SL.Sem

variable {F : FTy → Type} [FloatOps F]

/-! ## The loop over a point's windows, its count the word of `n` -/

theorem toInt_word {n : ℕ} (h : n < 2 ^ 31) : (BitVec.ofNat 32 n).toInt = n := by
  rw [BitVec.toInt_eq_toNat_cond, BitVec.toNat_ofNat]
  split_ifs <;> omega

theorem loop_ub (v : BitVec 32) : (k0_t1_loop v).ub = v := by
  simp [k0_t1_loop, Scalar.divsi, Scalar.subi, Scalar.addi, Scalar.muli, IntOp.divsi, IntOp.SDivCorner,
      IntOp.subi, IntOp.addi, IntOp.muli]

/-- The loop takes as many trips as there are windows. -/
theorem trips1 {n : ℕ} (h : n < 2 ^ 31) : (k0_t1_loop (BitVec.ofNat 32 n)).trips = n := by
  show Scf.trips 0#32 (k0_t1_loop (BitVec.ofNat 32 n)).ub 1#32 = n
  rw [loop_ub]
  unfold Scf.trips
  rw [toInt_word h]
  simp

/-- Window `k`'s first row. -/
theorem off2_val {b n : ℕ} (k : Fin (k0_t1_loop (BitVec.ofNat 32 n)).trips) (h : b + 32 * k.val < 2 ^ 32) :
    k0_off2 (BitVec.ofNat 32 b) (BitVec.ofNat 32 n) k 0 = b + 32 * k.val := by
  show (Scalar.indexCast (Scalar.addi (BitVec.ofNat 32 b) (Scalar.muli (Scf.iv 0#32 1#32 k.val) 32#32))).toNat = _
  have e : Scf.iv 0#32 1#32 k.val = BitVec.ofNat 32 k.val := by simp [Scf.iv]
  rw [e]
  show ((BitVec.ofNat 32 b) + (BitVec.ofNat 32 k.val) * 32#32).toNat = _
  simp only [BitVec.toNat_add, BitVec.toNat_mul, BitVec.toNat_ofNat]
  omega

/-- With `b + 32 n` at most 1024, every access of a point's windows fits. -/
theorem chk_of {b n : ℕ} (hn : n < 2 ^ 31) (h : b + 32 * n ≤ 1024) : k0_chk1 (BitVec.ofNat 32 b) (BitVec.ofNat 32 n) := by
  have ht := trips1 hn
  refine ⟨?_, fun k a => ?_, ?_, fun k => absurd (lt_of_lt_of_eq k.isLt (trips2 _)) (Nat.not_lt_zero _)⟩
  · refine ⟨(by decide : 0 < (1#32 : BitVec 32).toInt), ?_⟩
    show (0#32 : BitVec 32).toInt + ((k0_t1_loop (BitVec.ofNat 32 n)).trips : ℤ) * (1#32 : BitVec 32).toInt < 2 ^ 31
    rw [ht]
    simp
    omega
  · have hk : k.val < n := lt_of_lt_of_eq k.isLt ht
    match a with
    | 0 =>
      rw [off2_val k (by omega)]
      show b + 32 * k.val + 32 ≤ 1024
      omega
    | 1 => exact (by decide : 0 + 40 ≤ 40)
  · refine ⟨(by decide : 0 < (1#32 : BitVec 32).toInt), ?_⟩
    show (k0_t2_loop (BitVec.ofNat 32 n)).lb.toInt + ((k0_t2_loop (BitVec.ofNat 32 n)).trips : ℤ) * (1#32 : BitVec 32).toInt < 2 ^ 31
    rw [trips2]
    have e : (k0_t2_loop (BitVec.ofNat 32 n)).lb = BitVec.ofNat 32 n := loop_ub _
    rw [e, toInt_word hn]
    omega

/-! ## A point's two words -/

/-- A point's word of a table is the table's entry for the point. -/
theorem wordAt_eq (X : IVec S122 32) (t : Fin cfg0.N) : wordAt X (grid0.coords t) = X (ix1 (⟨t.val, N_0 ▸ t.isLt⟩ : Fin 122)) := by
  unfold wordAt
  refine congrArg X (funext fun a => Fin.ext ?_)
  fin_cases a
  show k0_off1 (grid0.coords t) 0 + 1 * 0 = t.val
  show (BitVec.ofNat 32 (grid0.coords t 0).val).toNat + 1 * 0 = t.val
  have := t.isLt
  have hN : cfg0.N = 122 := N_0
  rw [coords_val, BitVec.toNat_ofNat]
  omega

variable (W : Valuation τ sig (Elt F))

theorem bases_eq (t : Fin cfg0.N) : bases W t = W (Proc.devRef .tc main_v25) := by
  funext j
  unfold bases
  rw [View.read_apply]
  show _root_.cast _ (W (Proc.devRef .tc main_v25) (win0_0.arr.view.emb ((win0_0.rect t).emb j))) = _
  refine congrArg (W (Proc.devRef .tc main_v25)) (funext fun a => Fin.ext ?_)
  fin_cases a
  show 0 + 1 * (j 0).val = (j 0).val
  omega

theorem counts_eq (t : Fin cfg0.N) : counts W t = W (Proc.devRef .tc main_v29) := by
  funext j
  unfold counts
  rw [View.read_apply]
  show _root_.cast _ (W (Proc.devRef .tc main_v29) (win0_1.arr.view.emb ((win0_1.rect t).emb j))) = _
  refine congrArg (W (Proc.devRef .tc main_v29)) (funext fun a => Fin.ext ?_)
  fin_cases a
  show 0 + 1 * (j 0).val = (j 0).val
  omega

variable {m : (ℓ : Loc nD τ sig) → Buf (Elt F) ℓ} {c : Dev nD}
variable (hX : Sorted (given m c))
include hX

/-- Where a point's windows start, as the kernel reads it. -/
theorem base_word (t : Fin cfg0.N) : wordAt (bases (V5 m c) t) (grid0.coords t) = BitVec.ofNat 32 (lowBag (given m c) t.val) := by
  rw [wordAt_eq, bases_eq]
  exact base_at hX ⟨t.val, N_0 ▸ t.isLt⟩
/-- How many windows a point has, as the kernel reads it. -/
theorem count_word (t : Fin cfg0.N) : wordAt (counts (V5 m c) t) (grid0.coords t) = BitVec.ofNat 32 (winCount (given m c) t.val) := by
  rw [wordAt_eq, counts_eq]
  exact count_at hX ⟨t.val, N_0 ▸ t.isLt⟩

omit hX in
/-- Every window of a grid point ends at row 1024 at the latest. -/
theorem windows_fit {X : IVec S1000000 32} (hX : Sorted X) (p : ℕ) (hp : p < 122) : lowBag X p + 32 * winCount X p ≤ 1024 ∧ winCount X p < 2 ^ 31 := by
  have h1 := hX.lt (8192 * p + 8191)
  have h2 : lowBag X p ≤ bag X (8192 * p + 8191) := (Nat.div_mul_le_self _ _).trans (hX.mono (by omega) (by omega))
  have h3 : lowBag X p = bag X (8192 * p) / 32 * 32 := rfl
  unfold winCount
  omega

/-- Every access of the first call fits. -/
theorem fits : Fits (V5 m c) := fun t => by
  have hN : t.val < 122 := N_0 ▸ t.isLt
  obtain ⟨h1, h2⟩ := windows_fit hX t.val hN
  rw [base_word hX, count_word hX]
  exact chk_of h2 h1

end Cert.KernelIdeal.Tables

end
-- ==== Proof.Frames.lean ====
/-
  The program's runs, at any float values: they end, the arguments unchanged, the counters at zero, the results as computed.
-/
module

public import proofs.«01_k».proof.Proof.Fit

@[expose] public section

set_option maxRecDepth 16384

noncomputable section

namespace Cert.KernelIdeal.Frames

open Cert.KernelIdeal Cert.KernelIdeal.Gen Cert.KernelIdeal.Main Cert.KernelIdeal.Blocks Cert.KernelIdeal.Tables Cert.Given
open Idealize.ShloMosaic Idealize.ShloMosaic.TcCoe
open Idealize.SL.Sem

variable {F : FTy → Type} [FloatOps F]
variable (m : (ℓ : Loc nD τ sig) → Buf (Elt F) ℓ) (c : Dev nD)

/-- An array of the program among those the run speaks of. -/
theorem mem_uc (r : Ref sig .tc) (h : r.isScoped = false) : Proc.devRef .tc r ∈ Pipeline.ucRefs τ sig :=
  Finset.mem_filter.mpr ⟨StableHlo.devRef_mem_tcRefs r, by rw [show (Proc.devRef .tc r : DevRef τ sig).isScoped = r.isScoped from rfl, h]; decide⟩

/-- The features end as given. -/
theorem arg0_end : W8 m c main_arg0 = m ((c.tc : Thread nD τ).loc main_arg0) := by
  refine (StableHlo.after_of_writes_sub hostOps2 _ hostOps2_writes (by decide)).trans ?_
  refine (Pipeline.afterRegion_of_not_arr _ _ (by decide)).trans ?_
  refine (Pipeline.afterRegion_of_not_arr _ _ (by decide)).trans ?_
  rw [V5_of m c main_arg0 (by decide), V4_of m c main_arg0 (by decide), V3_of m c main_arg0 (by decide),
    V2_of m c main_arg0 (by decide), V1_of m c main_arg0 (by decide)]
/-- The bag numbers end as given. -/
theorem arg1_end : W8 m c main_arg1 = m ((c.tc : Thread nD τ).loc main_arg1) := by
  refine (StableHlo.after_of_writes_sub hostOps2 _ hostOps2_writes (by decide)).trans ?_
  refine (Pipeline.afterRegion_of_not_arr _ _ (by decide)).trans ?_
  refine (Pipeline.afterRegion_of_not_arr _ _ (by decide)).trans ?_
  rw [V5_of m c main_arg1 (by decide), V4_of m c main_arg1 (by decide), V3_of m c main_arg1 (by decide),
    V2_of m c main_arg1 (by decide), V1_of m c main_arg1 (by decide)]
/-- The targets before the second call are the targets given. -/
theorem arg2_mid : W6 m c main_arg2 = m ((c.tc : Thread nD τ).loc main_arg2) := by
  refine (Pipeline.afterRegion_of_not_arr _ _ (by decide)).trans ?_
  rw [V5_of m c main_arg2 (by decide), V4_of m c main_arg2 (by decide), V3_of m c main_arg2 (by decide),
    V2_of m c main_arg2 (by decide), V1_of m c main_arg2 (by decide)]
/-- The targets end as given. -/
theorem arg2_end : W8 m c main_arg2 = m ((c.tc : Thread nD τ).loc main_arg2) := by
  refine (StableHlo.after_of_writes_sub hostOps2 _ hostOps2_writes (by decide)).trans ?_
  refine Eq.trans ?_ (arg2_mid m c)
  refine Pipeline.afterRegion_keeps _ _ launch1.win.arr_inj (fun w => rfl) main_arg2 ?_
  decide

/-- Every run ends, with the arguments as given, every counter at zero, and every array at its value in `W8`. -/
theorem ends (hX : ∀ c, Sorted (given m c)) (ρ : Dev nD → PrngReg) :
    θ_run defs (onTc (τ := τ) (main (F := F))) ⟨m, fun _ => 0, ρ⟩ (fun r =>
      (∀ c : Dev nD, r.2.mem ((c.tc : Thread nD τ).loc main_v32) = W8 m c main_v32
        ∧ r.2.mem ((c.tc : Thread nD τ).loc main_v33) = W8 m c main_v33
        ∧ r.2.mem ((c.tc : Thread nD τ).loc main_v34) = W8 m c main_v34
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c =>
    ⟨h.1 c _ (mem_uc main_v32 rfl), h.1 c _ (mem_uc main_v33 rfl), h.1 c _ (mem_uc main_v34 rfl),
      (h.1 c _ (mem_uc main_arg0 rfl)).trans (arg0_end m c), (h.1 c _ (mem_uc main_arg1 rfl)).trans (arg1_end m c),
      (h.1 c _ (mem_uc main_arg2 rfl)).trans (arg2_end m c)⟩, h.2⟩) (run m ρ fun c => fits (hX c))

/-- The frame alone. -/
theorem frame (hX : ∀ c, Sorted (given m c)) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => (h.1 c).2.2.2, h.2⟩) (ends m hX ρ)

end Cert.KernelIdeal.Frames

end
-- ==== Proof.Twin.lean ====
/-
  The chip's program and the exact reals' program are one text, so what is proved of the one's runs at any float values holds
  of the other's.
-/
module

public import proofs.«01_k».proof.Proof.Frames
public import proofs.«01_k».proof.Kernel
public import proofs.«01_k».proof.Proof.Gen.Kernel

@[expose] public section

set_option maxRecDepth 16384

noncomputable section

/-! ## One text, two names -/

namespace Cert.Kernel.Frames

open Idealize.ShloMosaic Idealize.ShloMosaic.TcCoe
open Idealize.SL.Sem

variable {F : FTy → Type} [FloatOps F]

set_option maxRecDepth 100000
set_option maxHeartbeats 4000000

/-- The chip's kernel bodies are the exact reals' program's. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => with_unfolding_all rfl
  | 1 => with_unfolding_all rfl
  | ⟨_ + 2, h⟩ => exact absurd h (Nat.not_lt.2 (Nat.le_add_left _ _))
/-- So are its calls. -/
theorem defs_eq : Cert.Kernel.defs (F := F) = Cert.KernelIdeal.defs (F := F) :=
  congrArg (Pipeline.defs Cert.Kernel.pcfgs) bodies_eq
/-- So is its main function. -/
theorem main_eq : Cert.Kernel.main (F := F) = Cert.KernelIdeal.main (F := F) := by
  with_unfolding_all rfl

/-- The chip's program has the frame too. -/
theorem frame (m : (ℓ : Loc Cert.Kernel.nD Cert.Kernel.τ Cert.Kernel.sig) → Buf (Elt F) ℓ) (ρ : Dev Cert.Kernel.nD → PrngReg)
    (hX : ∀ c : Dev Cert.Kernel.nD, Cert.Given.Sorted (m ((c.tc : Thread Cert.Kernel.nD Cert.Kernel.τ).loc Cert.Kernel.main_arg1))) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  exact Cert.KernelIdeal.Frames.frame m hX ρ

end Cert.Kernel.Frames

end
-- ==== Proof.Step.lean ====
/-
  One block of 8192 cells over the extended reals: what the windows of a grid point add to the table of sums.

  A window compares every cell's bag with its 32 rows and multiplies the 0/1 table by the cells. Row `r` of the table
  so gains the cells of bag `r`, if `r` is in one of the point's windows.
-/
module

public import proofs.«01_k».proof.Proof.Fit

@[expose] public section

set_option maxRecDepth 16384

noncomputable section

namespace Cert.KernelIdeal.Step

open Cert.KernelIdeal Cert.KernelIdeal.Gen Cert.KernelIdeal.Main Cert.KernelIdeal.Blocks Cert.KernelIdeal.Tables Cert.Given
open Idealize.ShloMosaic Idealize.ShloMosaic.TcCoe
open Idealize.SL.Sem

/-! ## Numbers -/

/-- A truth value widened to a word and then to a float is 1 or 0. -/
theorem flag (φ : FTy) (p : Prop) [Decidable p] :
    (FloatOps.sitofp φ (BitVec.setWidth 32 (BitVec.ofBool (decide p))) : Ideal φ) = (if p then (1 : EReal) else 0) := by
  show ((((BitVec.setWidth 32 (BitVec.ofBool (decide p))).toInt : ℤ) : ℝ) : EReal) = _
  by_cases h : p <;> simp [h]

/-- A 0/1 factor selects. -/
theorem flag_mul (p : Prop) [Decidable p] (x : EReal) : (if p then (1 : EReal) else 0) * x = if p then x else 0 := by
  by_cases h : p <;> simp [h]

/-- A small number's word, as a float. -/
theorem word_float (φ : FTy) {n : ℕ} (h : n < 2 ^ 31) : (FloatOps.sitofp φ (BitVec.ofNat 32 n) : Ideal φ) = ((n : ℝ) : EReal) := by
  show ((((BitVec.ofNat 32 n).toInt : ℤ) : ℝ) : EReal) = _
  rw [toInt_word h]
  simp

/-- Cell against row: the row's number is the cell's less the window's start exactly when the cell's bag is that row. -/
theorem row_iff {r b q : ℕ} : (((r : ℝ) : EReal) = ((q : ℝ) : EReal) - ((((b : ℕ) : ℤ) : ℝ) : EReal)) ↔ q = b + r := by
  rw [← EReal.coe_sub, EReal.coe_eq_coe_iff]
  constructor
  · intro h
    have : (q : ℝ) = ((b + r : ℕ) : ℝ) := by push_cast; push_cast at h; linarith
    exact_mod_cast this
  · intro h
    subst h
    push_cast
    ring

/-! ## One window -/

/-- The start of window `k`, as the kernel's words compute it. -/
theorem start_word {b k : ℕ} (h : b + 32 * k < 2 ^ 31) :
    (Scalar.addi (BitVec.ofNat 32 b) (Scalar.muli (Scf.iv 0#32 1#32 k) 32#32)).toInt = ((b + 32 * k : ℕ) : ℤ) := by
  have e : Scf.iv 0#32 1#32 k = BitVec.ofNat 32 k := by simp [Scf.iv]
  rw [e]
  have e2 : Scalar.addi (BitVec.ofNat 32 b) (Scalar.muli (BitVec.ofNat 32 k) 32#32) = BitVec.ofNat 32 (b + 32 * k) := by
    apply BitVec.eq_of_toNat_eq
    show ((BitVec.ofNat 32 b) + (BitVec.ofNat 32 k) * 32#32).toNat = _
    simp only [BitVec.toNat_add, BitVec.toNat_mul, BitVec.toNat_ofNat]
    omega
  rw [e2, toInt_word h]

/-- A window's rows after its addition. -/
theorem window_at (v6 : FVec Ideal S8192 .f32) (v32 : FVec Ideal S40x8192 .bf16) (bg : Fin 8192 → ℕ)
    (hbg : ∀ x, v6 (ix1 x) = ((bg x : ℝ) : EReal)) {b n : ℕ} (k : Fin (k0_t1_loop (BitVec.ofNat 32 n)).trips) (h : b + 32 * k.val < 2 ^ 31)
    (w : FVec Ideal S32x40 .f32) (r : Fin 32) (c : Fin 40) :
    k0_pay1 (F := Ideal) v6 v32 (BitVec.ofNat 32 b) (BitVec.ofNat 32 n) k0_pay9 0#32 k w (ix2 r c)
      = w (ix2 r c) + ∑ x, if bg x = b + 32 * k.val + r.val then v32 (ix2 c x) else 0 := by
  pointwise [k0_pay1, k0_pay9]
  refine congrArg (w (ix2 r c) + ·) (Finset.sum_congr rfl fun x _ => ?_)
  rw [flag, flag_mul]
  refine if_congr ?_ rfl rfl
  rw [hbg, start_word h, word_float _ (by have := r.isLt; omega)]
  exact row_iff

/-! ## A point's windows -/

/-- After `j` windows the rows of those windows have gained their cells. -/
theorem fold_at (v6 : FVec Ideal S8192 .f32) (v32 : FVec Ideal S40x8192 .bf16) (bg : Fin 8192 → ℕ)
    (hbg : ∀ x, v6 (ix1 x) = ((bg x : ℝ) : EReal)) {b n : ℕ} (hn : n < 2 ^ 31) (h : b + 32 * n ≤ 1024) (g : FVec Ideal S1024x40 .f32)
    (j : ℕ) (hj : j ≤ n) (r : Fin 1024) (c : Fin 40) :
    accFold (F := Ideal) v6 v32 (BitVec.ofNat 32 b) (BitVec.ofNat 32 n) k0_pay9 g j (ix2 r c)
      = g (ix2 r c) + if b ≤ r.val ∧ r.val < b + 32 * j then ∑ x, (if bg x = r.val then v32 (ix2 c x) else 0) else 0 := by
  induction j generalizing r c with
  | zero =>
    rw [if_neg (by omega), add_zero]
    rfl
  | succ j ih =>
    have hk : j < (k0_t1_loop (BitVec.ofNat 32 n)).trips := by rw [trips1 hn]; omega
    have ho := off2_val (b := b) ⟨j, hk⟩ (by show b + 32 * j < 2 ^ 32; omega)
    rw [accFold_succ v6 v32 _ _ _ g ⟨j, hk⟩, ho]
    show putRows _ (b + 32 * j) _ (ix2 r c) = _
    unfold putRows
    by_cases hr : b + 32 * j ≤ r.val ∧ r.val < b + 32 * j + 32
    · rw [if_pos (show b + 32 * j ≤ ((ix2 r c : S1024x40.Idx) 0).val ∧ ((ix2 r c : S1024x40.Idx) 0).val < b + 32 * j + 32 from hr)]
      rw [if_pos (by omega)]
      refine (window_at v6 v32 bg hbg ⟨j, hk⟩ (by show b + 32 * j < 2 ^ 31; omega) _ _ c).trans ?_
      have e1 : (r.val - (b + 32 * j)) % 32 = r.val - (b + 32 * j) := Nat.mod_eq_of_lt (by omega)
      have e2 : (b + 32 * j + (r.val - (b + 32 * j)) % 32) % 1024 = r.val := by rw [e1, Nat.mod_eq_of_lt] <;> omega
      refine congrArg₂ (· + ·) ?_ (Finset.sum_congr rfl fun x _ => if_congr ?_ rfl rfl)
      · unfold getRows
        have hi : (ix2 (⟨(b + 32 * j + (r.val - (b + 32 * j)) % 32) % 1024, Nat.mod_lt _ (by norm_num)⟩ : Fin 1024) c : S1024x40.Idx) = ix2 r c :=
          congrArg (fun q => (ix2 q c : S1024x40.Idx)) (Fin.ext e2)
        refine (congrArg (accFold (F := Ideal) v6 v32 (BitVec.ofNat 32 b) (BitVec.ofNat 32 n) k0_pay9 g j) hi).trans ?_
        rw [ih (by omega), if_neg (by omega), add_zero]
      · show bg x = b + 32 * j + (r.val - (b + 32 * j)) % 32 ↔ _
        rw [e1]
        omega
    · rw [if_neg (show ¬ (b + 32 * j ≤ ((ix2 r c : S1024x40.Idx) 0).val ∧ ((ix2 r c : S1024x40.Idx) 0).val < b + 32 * j + 32) from hr)]
      rw [ih (by omega)]
      refine congrArg (g (ix2 r c) + ·) (if_congr (by omega) rfl rfl)

/-- After all its windows, when they reach every cell's bag, a point has added each cell to its bag's row. -/
theorem point_at (X3 : FVec Ideal S8192 .f32) (X4 : FVec Ideal S32x8192 .f32) (bg : Fin 8192 → ℕ)
    (hbg : ∀ x, X3 (ix1 x) = ((bg x : ℝ) : EReal)) {b n : ℕ} (hn : n < 2 ^ 31) (h : b + 32 * n ≤ 1024)
    (hin : ∀ x, b ≤ bg x ∧ bg x < b + 32 * n) (g : FVec Ideal S1024x40 .f32) (r : Fin 1024) (c : Fin 40) :
    accPoint (F := Ideal) (BitVec.ofNat 32 b) (BitVec.ofNat 32 n) X3 X4 g (ix2 r c)
      = g (ix2 r c) + ∑ x, if bg x = r.val then k0_pay8 (F := Ideal) X4 (ix2 c x) else 0 := by
  unfold accPoint
  rw [trips1 hn]
  have h6 : ∀ x, k0_pay6 (F := Ideal) X3 (ix1 x) = ((bg x : ℝ) : EReal) := fun x => by
    rw [← hbg]
    pointwise [k0_pay6]
  rw [fold_at (k0_pay6 X3) (k0_pay8 X4) bg h6 hn h g n le_rfl r c]
  refine congrArg (g (ix2 r c) + ·) ?_
  split_ifs with hr
  · rfl
  · refine (Finset.sum_eq_zero fun x _ => if_neg fun e => hr ?_).symm
    have := hin x
    omega

/-- A cell's column of the table's right factor: its features, then 1, then zeros. -/
theorem column_at (X4 : FVec Ideal S32x8192 .f32) (c : Fin 40) (x : Fin 8192) :
    k0_pay8 (F := Ideal) X4 (ix2 c x) = if h : c.val < 32 then X4 (ix2 ⟨c.val, h⟩ x) else if c.val = 32 then 1 else 0 := by
  pointwise [k0_pay8, k0_pay5]
  split_ifs <;> first | rfl | omega

end Cert.KernelIdeal.Step

end
-- ==== Proof.Cells.lean ====
/-
  What the blocks hold, cell by cell, over the extended reals.

  Cell `n` has a bag number and 32 features. The first call's blocks are the cells 8192 t .. 8192 t + 8191, the second
  call's block is the cells from 999424 on, of which 576 exist.
-/
module

public import proofs.«01_k».proof.Proof.Step
public import proofs.«01_k».proof.Proof.Frames

@[expose] public section

set_option maxRecDepth 16384

noncomputable section

namespace Cert.KernelIdeal.Cells

open Cert.KernelIdeal Cert.KernelIdeal.Gen Cert.KernelIdeal.Main Cert.KernelIdeal.Blocks Cert.KernelIdeal.Tables Cert.Given
open Idealize.ShloMosaic Idealize.ShloMosaic.TcCoe
open Idealize.SL.Sem

/-! ## The cells' arrays before the first call -/

section Arrays

variable (m : (ℓ : Loc nD τ sig) → Buf (Elt Ideal) ℓ) (c : Dev nD)

/-- The features as the program is given them. -/
def cells : FVec Ideal S1000000x32 .f32 := m ((c.tc : Thread nD τ).loc main_arg0)

/-- The first call reads the features with cells along the second axis. -/
theorem V5_v0 (k : Fin 32) (n : Fin 1000000) : V5 m c main_v0 (ix2 k n) = cells m c (ix2 n k) := by
  rw [V5_of m c main_v0 (by decide), V4_of m c main_v0 (by decide), V3_of m c main_v0 (by decide), V2_of m c main_v0 (by decide)]
  unfold V1
  after_reads_at
  rfl

variable {m c}
variable (hX : Sorted (given m c))
include hX

/-- It reads each bag number as a real. -/
theorem V5_v1 (n : Fin 1000000) : (V5 m c main_v1 (ix1 n) : EReal) = ((bag (given m c) n.val : ℝ) : EReal) := by
  rw [V5_of m c main_v1 (by decide), V4_of m c main_v1 (by decide), V3_of m c main_v1 (by decide), V2_of m c main_v1 (by decide)]
  have e : V1 m c main_v1 (ix1 n) = FloatOps.sitofp (F := Ideal) .f32 (given m c (ix1 n)) := by
    unfold V1
    after_reads_at
    rfl
  rw [e, word_eq (given m c) n.isLt]
  exact Step.word_float _ (lt_trans (hX.lt _) (by decide))

end Arrays

/-! ## The blocks of the first call -/

section Blocks

variable (W : Valuation τ sig (Elt Ideal))

theorem off2 : ∀ t : Fin cfg0.N, win0_2.kind.off (win0_2.index t 0) (win0_2.size 0) = 8192 * t.val := by decide +kernel
theorem off3 : ∀ t : Fin cfg0.N, win0_3.kind.off (win0_3.index t 0) (win0_3.size 0) = 0
    ∧ win0_3.kind.off (win0_3.index t 1) (win0_3.size 1) = 8192 * t.val := by decide +kernel

theorem inBlock (t : Fin cfg0.N) (x : Fin 8192) : 8192 * t.val + x.val < 1000000 := by
  have h : t.val < 122 := lt_of_lt_of_eq t.isLt N_0
  have := x.isLt
  omega
theorem inTail (x : Fin 1024) (h : x.val < 576) : 999424 + x.val < 1000000 := by omega

theorem moved2 (t : Fin cfg0.N) (x : Fin 8192) : win0_2.moved (grid0.coords t) (ix1 x) = true := by
  rw [win0_2.moved_iff]
  intro a
  unfold Pipeline.Window.xsize
  rw [clip2_none t a]
  fin_cases a
  exact x.isLt
theorem moved3 (t : Fin cfg0.N) (k : Fin 32) (x : Fin 8192) : win0_3.moved (grid0.coords t) (ix2 k x) = true := by
  rw [win0_3.moved_iff]
  intro a
  unfold Pipeline.Window.xsize
  rw [clip3_none t a]
  fin_cases a
  · exact k.isLt
  · exact x.isLt

/-- Entry `x` of block `t`'s bags is that of cell 8192 t + x. -/
theorem bags_read (t : Fin cfg0.N) (x : Fin 8192) : bags W t (ix1 x) = W (Proc.devRef .tc main_v1) (ix1 ⟨8192 * t.val + x.val, inBlock t x⟩) := by
  unfold bags Pipeline.Window.fill
  rw [dif_pos (moved2 t x), View.read_apply]
  show _root_.cast _ (W (Proc.devRef .tc main_v1) (win0_2.arr.view.emb ((win0_2.rect t).emb _))) = _
  refine congrArg (W (Proc.devRef .tc main_v1)) (funext fun a => Fin.ext ?_)
  fin_cases a
  show win0_2.kind.off (win0_2.index t 0) (win0_2.size 0) + 1 * x.val = 8192 * t.val + x.val
  rw [off2]
  omega

/-- Column `x` of block `t`'s features is that of cell 8192 t + x. -/
theorem feats_read (t : Fin cfg0.N) (k : Fin 32) (x : Fin 8192) :
    feats W t (ix2 k x) = W (Proc.devRef .tc main_v0) (ix2 k ⟨8192 * t.val + x.val, inBlock t x⟩) := by
  unfold feats Pipeline.Window.fill
  rw [dif_pos (moved3 t k x), View.read_apply]
  show _root_.cast _ (W (Proc.devRef .tc main_v0) (win0_3.arr.view.emb ((win0_3.rect t).emb _))) = _
  refine congrArg (W (Proc.devRef .tc main_v0)) (funext fun a => Fin.ext ?_)
  fin_cases a
  · show win0_3.kind.off (win0_3.index t 0) (win0_3.size 0) + 1 * k.val = k.val
    rw [(off3 t).1]
    omega
  · show win0_3.kind.off (win0_3.index t 1) (win0_3.size 1) + 1 * x.val = 8192 * t.val + x.val
    rw [(off3 t).2]
    omega

/-! ## The block of the second call -/

theorem off10 : ∀ t : Fin cfg1.N, win1_0.kind.off (win1_0.index t 0) (win1_0.size 0) = 999424 := by decide +kernel
theorem off11 : ∀ t : Fin cfg1.N, win1_1.kind.off (win1_1.index t 0) (win1_1.size 0) = 0
    ∧ win1_1.kind.off (win1_1.index t 1) (win1_1.size 1) = 999424 := by decide +kernel

/-- Entry `x` of the last block's bags is that of cell 999424 + x. -/
theorem tailBags_read (t : Fin cfg1.N) (x : Fin 1024) (h : x.val < 576) :
    tailBags W t (ix1 x) = W (Proc.devRef .tc main_v1) (ix1 ⟨999424 + x.val, inTail x h⟩) := by
  unfold tailBags Pipeline.Window.fill
  rw [dif_pos (moved_bags t x h), View.read_apply]
  show _root_.cast _ (W (Proc.devRef .tc main_v1) (win1_0.arr.view.emb ((win1_0.rect t).emb _))) = _
  refine congrArg (W (Proc.devRef .tc main_v1)) (funext fun a => Fin.ext ?_)
  fin_cases a
  show win1_0.kind.off (win1_0.index t 0) (win1_0.size 0) + 1 * x.val = 999424 + x.val
  rw [off10]
  omega

/-- Column `x` of the last block's features is that of cell 999424 + x. -/
theorem tailFeats_read (t : Fin cfg1.N) (k : Fin 32) (x : Fin 1024) (h : x.val < 576) :
    tailFeats W t (ix2 k x) = W (Proc.devRef .tc main_v0) (ix2 k ⟨999424 + x.val, inTail x h⟩) := by
  unfold tailFeats Pipeline.Window.fill
  rw [dif_pos (moved_feats t k x h), View.read_apply]
  show _root_.cast _ (W (Proc.devRef .tc main_v0) (win1_1.arr.view.emb ((win1_1.rect t).emb _))) = _
  refine congrArg (W (Proc.devRef .tc main_v0)) (funext fun a => Fin.ext ?_)
  fin_cases a
  · show win1_1.kind.off (win1_1.index t 0) (win1_1.size 0) + 1 * k.val = k.val
    rw [(off11 t).1]
    omega
  · show win1_1.kind.off (win1_1.index t 1) (win1_1.size 1) + 1 * x.val = 999424 + x.val
    rw [(off11 t).2]
    omega

/-! ## The blocks that are whole arrays -/

theorem sums_read (t : Fin cfg1.N) : sums W t = W (Proc.devRef .tc main_v30_0) := by
  have ho : ∀ t : Fin cfg1.N, ∀ a, win1_2.kind.off (win1_2.index t a) (win1_2.size a) = 0 := by decide +kernel
  funext j
  unfold sums
  rw [View.read_apply]
  show _root_.cast _ (W (Proc.devRef .tc main_v30_0) (win1_2.arr.view.emb ((win1_2.rect t).emb j))) = _
  refine congrArg (W (Proc.devRef .tc main_v30_0)) (funext fun a => Fin.ext ?_)
  show win1_2.kind.off (win1_2.index t a) (win1_2.size a) + 1 * (j a).val = (j a).val
  rw [ho]
  omega

theorem logs_read (t : Fin cfg1.N) : logs W t = W (Proc.devRef .tc main_v30_1) := by
  have ho : ∀ t : Fin cfg1.N, ∀ a, win1_3.kind.off (win1_3.index t a) (win1_3.size a) = 0 := by decide +kernel
  funext j
  unfold logs
  rw [View.read_apply]
  show _root_.cast _ (W (Proc.devRef .tc main_v30_1) (win1_3.arr.view.emb ((win1_3.rect t).emb j))) = _
  refine congrArg (W (Proc.devRef .tc main_v30_1)) (funext fun a => Fin.ext ?_)
  show win1_3.kind.off (win1_3.index t a) (win1_3.size a) + 1 * (j a).val = (j a).val
  rw [ho]
  omega

theorem targets_read (t : Fin cfg1.N) : targets W t = W (Proc.devRef .tc main_arg2) := by
  have ho : ∀ t : Fin cfg1.N, ∀ a, win1_4.kind.off (win1_4.index t a) (win1_4.size a) = 0 := by decide +kernel
  funext j
  unfold targets
  rw [View.read_apply]
  show _root_.cast _ (W (Proc.devRef .tc main_arg2) (win1_4.arr.view.emb ((win1_4.rect t).emb j))) = _
  refine congrArg (W (Proc.devRef .tc main_arg2)) (funext fun a => Fin.ext ?_)
  show win1_4.kind.off (win1_4.index t a) (win1_4.size a) + 1 * (j a).val = (j a).val
  rw [ho]
  omega

end Blocks

end Cert.KernelIdeal.Cells

end
-- ==== Proof.Acc.lean ====
/-
  The running totals after each grid point, as sums over the cells so far.
-/
module

public import proofs.«01_k».proof.Proof.Cells

@[expose] public section

set_option maxRecDepth 16384

noncomputable section

namespace Cert.KernelIdeal.Cells

open Cert.KernelIdeal Cert.KernelIdeal.Gen Cert.KernelIdeal.Main Cert.KernelIdeal.Blocks Cert.KernelIdeal.Tables Cert.Given
open Idealize.ShloMosaic Idealize.ShloMosaic.TcCoe
open Idealize.SL.Sem

/-! ## What a cell gives -/

/-- Cell `n`'s column: its 32 features, then 1, then zeros. -/
def col (X0 : FVec Ideal S1000000x32 .f32) (k n : ℕ) : EReal :=
  if h : k < 32 then (if hn : n < 1000000 then X0 (ix2 ⟨n, hn⟩ ⟨k, h⟩) else 0) else if k = 32 then 1 else 0

/-- What cell `n` adds to row `r`: its column if `r` is its bag. -/
def part (X0 : FVec Ideal S1000000x32 .f32) (X : IVec S1000000 32) (r k n : ℕ) : EReal := if bag X n = r then col X0 k n else 0

/-- Row `r`, column `k` of the table of all cells. -/
def total (X0 : FVec Ideal S1000000x32 .f32) (X : IVec S1000000 32) (r k : ℕ) : EReal := ∑ n ∈ Finset.range 1000000, part X0 X r k n

/-- The logarithm of a column's greatest feature. -/
def logMax (f : Fin 32 → EReal) : EReal := Ideal.log (Finset.fold max (Ideal.ofBits .f32 4286578688#32) f Finset.univ)

/-- The logarithm of cell `n`'s greatest feature. -/
def lg (X0 : FVec Ideal S1000000x32 .f32) (n : ℕ) : EReal := if hn : n < 1000000 then logMax fun k => X0 (ix2 ⟨n, hn⟩ k) else 0

/-- A sum over `Q` stretches of `L`, stretch by stretch. -/
theorem sum_stretches (f : ℕ → EReal) (L Q : ℕ) :
    ∑ n ∈ Finset.range (L * Q), f n = ∑ q ∈ Finset.range Q, ∑ j ∈ Finset.range L, f (L * q + j) := by
  induction Q with
  | zero => simp
  | succ Q ih => rw [Nat.mul_succ, Finset.sum_range_add, ih, Finset.sum_range_succ]

variable {m : (ℓ : Loc nD τ sig) → Buf (Elt Ideal) ℓ} {c : Dev nD}

/-! ## The row of logarithms -/

theorem col_max (t : Fin cfg0.N) (x : Fin 8192) :
    Ideal.log (Finset.fold max (Ideal.ofBits .f32 4286578688#32) (fun k : Fin 32 => feats (V5 m c) t (ix2 k x)) Finset.univ)
      = lg (cells m c) (8192 * t.val + x.val) := by
  unfold lg logMax
  rw [dif_pos (inBlock t x)]
  have e : (fun k : Fin 32 => feats (V5 m c) t (ix2 k x)) = fun k => cells m c (ix2 ⟨8192 * t.val + x.val, inBlock t x⟩ k) :=
    funext fun k => (feats_read (V5 m c) t k x).trans (V5_v0 m c k _)
  rw [e]

theorem pay5_eq (v : FVec Ideal S32x8192 .f32) : k0_pay5 (F := Ideal) v = v := by
  funext i
  idx_vars i
  pointwise [k0_pay5]

/-- The row gains the logarithms of eight columns, 1024 apart. -/
theorem eight (v : FVec Ideal S32x8192 .f32) (g : FVec Ideal S1x1024 .f32) (j : Fin 1024) :
    k0_pay7 (F := Ideal) v g (ix2 0 j) = g (ix2 0 j) + (Ideal.log (Finset.fold max (Ideal.ofBits .f32 4286578688#32) (fun k : Fin 32 => v (ix2 k (⟨0 + j.val, by have := j.isLt; omega⟩ : Fin 8192))) Finset.univ)
      + Ideal.log (Finset.fold max (Ideal.ofBits .f32 4286578688#32) (fun k : Fin 32 => v (ix2 k (⟨1024 + j.val, by have := j.isLt; omega⟩ : Fin 8192))) Finset.univ)
      + Ideal.log (Finset.fold max (Ideal.ofBits .f32 4286578688#32) (fun k : Fin 32 => v (ix2 k (⟨2048 + j.val, by have := j.isLt; omega⟩ : Fin 8192))) Finset.univ)
      + Ideal.log (Finset.fold max (Ideal.ofBits .f32 4286578688#32) (fun k : Fin 32 => v (ix2 k (⟨3072 + j.val, by have := j.isLt; omega⟩ : Fin 8192))) Finset.univ)
      + Ideal.log (Finset.fold max (Ideal.ofBits .f32 4286578688#32) (fun k : Fin 32 => v (ix2 k (⟨4096 + j.val, by have := j.isLt; omega⟩ : Fin 8192))) Finset.univ)
      + Ideal.log (Finset.fold max (Ideal.ofBits .f32 4286578688#32) (fun k : Fin 32 => v (ix2 k (⟨5120 + j.val, by have := j.isLt; omega⟩ : Fin 8192))) Finset.univ)
      + Ideal.log (Finset.fold max (Ideal.ofBits .f32 4286578688#32) (fun k : Fin 32 => v (ix2 k (⟨6144 + j.val, by have := j.isLt; omega⟩ : Fin 8192))) Finset.univ)
      + Ideal.log (Finset.fold max (Ideal.ofBits .f32 4286578688#32) (fun k : Fin 32 => v (ix2 k (⟨7168 + j.val, by have := j.isLt; omega⟩ : Fin 8192))) Finset.univ)) := by
  unfold k0_pay7
  rw [pay5_eq]
  pointwise

/-- A grid point adds its block's logarithms to the row. -/
theorem mpl_one (t : Fin cfg0.N) (g : FVec Ideal S1x1024 .f32) (j : Fin 1024) :
    k0_pay7 (F := Ideal) (feats (V5 m c) t) g (ix2 0 j)
      = g (ix2 0 j) + ∑ q ∈ Finset.range 8, lg (cells m c) (1024 * (8 * t.val + q) + j.val) := by
  rw [eight]
  simp only [col_max]
  refine congrArg (g (ix2 0 j) + ·) ?_
  simp only [Finset.sum_range_succ, Finset.sum_range_zero, zero_add]
  have e : ∀ q, 1024 * (8 * t.val + q) + j.val = 8192 * t.val + (1024 * q + j.val) := fun q => by ring
  simp only [e]
  norm_num

theorem pay4_zero (j : Fin 1024) : k0_pay4 (F := Ideal) (ix2 0 j) = 0 := by
  pointwise [k0_pay4]

/-- The row after point `n`. -/
theorem mpl_at (n : ℕ) (h : n < cfg0.N) (j : Fin 1024) :
    mplAfter (V5 m c) n h (ix2 0 j) = ∑ q ∈ Finset.range (8 * (n + 1)), lg (cells m c) (1024 * q + j.val) := by
  induction n with
  | zero =>
    show k0_pay7 (F := Ideal) (feats (V5 m c) ⟨0, h⟩) (startMpl (F := Ideal) (grid0.coords ⟨0, h⟩) (k0_pay4 (F := Ideal))) (ix2 0 j) = _
    rw [mpl_one]
    unfold startMpl
    rw [if_pos (coords_val ⟨0, h⟩), pay4_zero, zero_add]
    simp
  | succ n ih =>
    show k0_pay7 (F := Ideal) (feats (V5 m c) ⟨n + 1, h⟩) (startMpl (F := Ideal) (grid0.coords ⟨n + 1, h⟩) (mplAfter (V5 m c) n (Nat.lt_of_succ_lt h))) (ix2 0 j) = _
    rw [mpl_one]
    unfold startMpl
    rw [if_neg (by rw [coords_val]; exact Nat.succ_ne_zero n), ih, show 8 * (n + 1 + 1) = 8 * (n + 1) + 8 by ring,
      Finset.sum_range_add]

/-! ## The table of sums -/

variable (hX : Sorted (given m c))
include hX

/-- The bag of the block's cell. -/
theorem bags_at (t : Fin cfg0.N) (x : Fin 8192) : (bags (V5 m c) t (ix1 x) : EReal) = ((bag (given m c) (8192 * t.val + x.val) : ℝ) : EReal) :=
  (bags_read (V5 m c) t x).trans (V5_v1 hX _)

/-- A point's windows reach every cell's bag. -/
theorem reach (t : Fin cfg0.N) (x : Fin 8192) :
    lowBag (given m c) t.val ≤ bag (given m c) (8192 * t.val + x.val)
      ∧ bag (given m c) (8192 * t.val + x.val) < lowBag (given m c) t.val + 32 * winCount (given m c) t.val := by
  have ht : t.val < 122 := lt_of_lt_of_eq t.isLt N_0
  have hx := x.isLt
  have h1 : bag (given m c) (8192 * t.val) ≤ bag (given m c) (8192 * t.val + x.val) := hX.mono (by omega) (by omega)
  have h2 : bag (given m c) (8192 * t.val + x.val) ≤ bag (given m c) (8192 * t.val + 8191) := hX.mono (by omega) (by omega)
  unfold winCount lowBag
  omega

/-- A grid point adds its block's cells to the table, row by row. -/
theorem acc_one (t : Fin cfg0.N) (g : FVec Ideal S1024x40 .f32) (r : Fin 1024) (k : Fin 40) :
    accStep (V5 m c) t g (ix2 r k)
      = startAcc (grid0.coords t) g (ix2 r k) + ∑ x ∈ Finset.range 8192, part (cells m c) (given m c) r.val k.val (8192 * t.val + x) := by
  have ht : t.val < 122 := lt_of_lt_of_eq t.isLt N_0
  obtain ⟨h1, h2⟩ := windows_fit hX t.val ht
  unfold accStep
  rw [base_word hX, count_word hX]
  rw [Step.point_at (bags (V5 m c) t) (feats (V5 m c) t) (fun x => bag (given m c) (8192 * t.val + x.val)) (bags_at hX t) h2 h1 (reach hX t)]
  refine congrArg (startAcc (grid0.coords t) g (ix2 r k) + ·) ?_
  rw [← Fin.sum_univ_eq_sum_range]
  refine Finset.sum_congr rfl fun x _ => ?_
  unfold part col
  rw [Step.column_at]
  refine if_congr Iff.rfl ?_ rfl
  by_cases hk : k.val < 32
  · rw [dif_pos hk, dif_pos hk, dif_pos (inBlock t x)]
    exact (feats_read (V5 m c) t _ x).trans (V5_v0 m c _ _)
  · rw [dif_neg hk, dif_neg hk]

omit hX in
theorem pay3_zero (r : Fin 1024) (k : Fin 40) : k0_pay3 (F := Ideal) (ix2 r k) = 0 := by
  pointwise [k0_pay3]

/-- The table after point `n`. -/
theorem acc_at (n : ℕ) (h : n < cfg0.N) (r : Fin 1024) (k : Fin 40) :
    accAfter (V5 m c) n h (ix2 r k) = ∑ x ∈ Finset.range (8192 * (n + 1)), part (cells m c) (given m c) r.val k.val x := by
  induction n generalizing r k with
  | zero =>
    show accStep (V5 m c) ⟨0, h⟩ k0_pay3 (ix2 r k) = _
    rw [acc_one hX]
    unfold startAcc
    rw [if_pos (coords_val ⟨0, h⟩), pay3_zero, zero_add]
    simp
  | succ n ih =>
    show accStep (V5 m c) ⟨n + 1, h⟩ (accAfter (V5 m c) n (Nat.lt_of_succ_lt h)) (ix2 r k) = _
    rw [acc_one hX]
    unfold startAcc
    rw [if_neg (by rw [coords_val]; exact Nat.succ_ne_zero n), ih, show 8192 * (n + 1 + 1) = 8192 * (n + 1) + 8192 by ring,
      Finset.sum_range_add]

end Cert.KernelIdeal.Cells

end
-- ==== Proof.Tail.lean ====
/-
  The second call over the extended reals: with the totals of the cells before 999424 and the last 576 cells, what it computes.
-/
module

public import proofs.«01_k».proof.Proof.Acc

@[expose] public section

set_option maxRecDepth 16384

noncomputable section

namespace Cert.KernelIdeal.Cells

open Cert.KernelIdeal Cert.KernelIdeal.Gen Cert.KernelIdeal.Main Cert.KernelIdeal.Blocks Cert.KernelIdeal.Tables Cert.Given
open Idealize.ShloMosaic Idealize.ShloMosaic.TcCoe
open Idealize.SL.Sem

/-! ## Constants -/

theorem log_one : Ideal.log 1 = 0 := by
  show (if (1 : ℝ) ≤ 0 then (⊥ : EReal) else ((Real.log 1 : ℝ) : EReal)) = 0
  simp

theorem minus_one : Ideal.ofBits .f32 0xBF800000#32 = ((-1 : ℝ) : EReal) := by
  simp [Ideal.ofBits, Ideal.ieee, -EReal.coe_mul, -EReal.coe_neg]; norm_num

/-- A million. -/
theorem million : Ideal.ofBits .f32 0x49742400#32 = ((1000000 : ℝ) : EReal) := by
  simp [Ideal.ofBits, Ideal.ieee, -EReal.coe_mul, -EReal.coe_neg]; norm_num

/-- The sign moves through the division by a million. -/
theorem minus_div (x : EReal) : Ideal.div (0 - x) (Ideal.ofBits .f32 0x49742400#32) = -Ideal.div x (Ideal.ofBits .f32 0x49742400#32) := by
  have h : (((1000000 : ℝ) : EReal)) ≠ 0 := by
    rw [Ne, EReal.coe_eq_zero]
    norm_num
  rw [million]
  unfold Ideal.div
  rw [if_neg h, if_neg h, zero_sub, EReal.neg_mul]

/-! ## The results -/

/-- The likelihood loss: minus the mean logarithm. -/
def likely (X0 : FVec Ideal S1000000x32 .f32) : EReal :=
  -Ideal.div (∑ n ∈ Finset.range 1000000, lg X0 n) (Ideal.ofBits .f32 0x49742400#32)

/-- The distance loss: the mean distance of the bags' mean features from the targets. -/
def distant (X0 : FVec Ideal S1000000x32 .f32) (X : IVec S1000000 32) (Y : FVec Ideal S1024x32 .f32) : EReal :=
  Ideal.div (∑ r : Fin 1024, ∑ k : Fin 32, FloatOps.absf (F := Ideal) (φ := .f32)
    (Ideal.div (total X0 X r.val k.val) (max (total X0 X r.val 32) 1) - Y (ix2 r k))) (Ideal.ofBits .f32 0x47000000#32)

/-- The loss: half of each. -/
def loss (X0 : FVec Ideal S1000000x32 .f32) (X : IVec S1000000 32) (Y : FVec Ideal S1024x32 .f32) : EReal :=
  Ideal.ofBits .f32 0x3F000000#32 * likely X0 + Ideal.ofBits .f32 0x3F000000#32 * distant X0 X Y

/-! ## The last cells' logarithms -/

section Logs

variable (X0 : FVec Ideal S1000000x32 .f32) (g : FVec Ideal S1x1024 .f32) (v : FVec Ideal S32x1024 .f32)
  (hg : ∀ j : Fin 1024, g (ix2 0 j) = ∑ q ∈ Finset.range 976, lg X0 (1024 * q + j.val))
  (hv : ∀ (k : Fin 32) (x : Fin 1024) (h : x.val < 576), v (ix2 k x) = X0 (ix2 ⟨999424 + x.val, inTail x h⟩ k))

theorem pay8_eq : k1_pay8 (F := Ideal) v = v := by
  funext i
  idx_vars i
  pointwise [k1_pay8]

/-- The second call's sum of logarithms: the row's, then the 576 last cells'. -/
theorem split_logs : k1_pay9 (F := Ideal) g v
    = ∑ j : Fin 1024, g (ix2 0 j) + ∑ x : Fin 576, logMax fun k => v (ix2 k ⟨x.val, lt_trans x.isLt (by decide)⟩) := by
  unfold k1_pay9
  rw [pay8_eq]
  pointwise [Fin.mask_at]
  simp only [log_one, Finset.sum_const_zero, add_zero, Finset.univ_unique, Finset.sum_singleton]
  rfl

include hg hv

/-- The row's total and the last cells' logarithms make the sum over all cells. -/
theorem logs_all : k1_pay9 (F := Ideal) g v = ∑ n ∈ Finset.range 1000000, lg X0 n := by
  rw [split_logs, show (1000000 : ℕ) = 1024 * 976 + 576 from rfl, Finset.sum_range_add, sum_stretches, Finset.sum_comm]
  refine congrArg₂ (· + ·) ?_ ?_
  · rw [← Fin.sum_univ_eq_sum_range]
    exact Finset.sum_congr rfl fun j _ => hg j
  · rw [← Fin.sum_univ_eq_sum_range]
    refine Finset.sum_congr rfl fun x _ => ?_
    unfold lg
    have hx : x.val < 576 := x.isLt
    rw [dif_pos (show 1024 * 976 + x.val < 1000000 by omega)]
    exact congrArg logMax (funext fun k => hv k ⟨x.val, lt_trans x.isLt (by decide)⟩ x.isLt)

end Logs

/-! ## The last cells' sums -/

section Sums

variable (X0 : FVec Ideal S1000000x32 .f32) (X : IVec S1000000 32) (u : FVec Ideal S1024 .f32) (v : FVec Ideal S32x1024 .f32)
  (hu : ∀ (x : Fin 1024) (h : x.val < 576), u (ix1 x) = ((bag X (999424 + x.val) : ℝ) : EReal))
  (hv : ∀ (k : Fin 32) (x : Fin 1024) (h : x.val < 576), v (ix2 k x) = X0 (ix2 ⟨999424 + x.val, inTail x h⟩ k))

include hu in
/-- The 0/1 table: a cell's bag, the masked columns in no bag. -/
theorem mark_at (r x : Fin 1024) :
    (FloatOps.sitofp .f32 (k1_pay11 (F := Ideal) u (ix2 r x)) : Ideal .f32)
      = if x.val < 576 ∧ bag X (999424 + x.val) = r.val then (1 : EReal) else 0 := by
  have e : k1_pay11 (F := Ideal) u (ix2 r x) = BitVec.setWidth 32 (BitVec.ofBool (decide ((FloatOps.sitofp .f32 (BitVec.ofNat 32 r.val) : Ideal .f32)
      = Scalar.select (k1_pay7 (ix2 0 x)) (u (ix1 x)) (Ideal.ofBits .f32 0xBF800000#32)))) := by
    pointwise [k1_pay11]
  rw [e, Step.flag]
  refine if_congr ?_ rfl rfl
  rw [Fin.mask_at, Step.word_float _ (by have := r.isLt; omega)]
  by_cases hx : x.val < 576
  · rw [if_pos hx]
    show (((r.val : ℝ) : EReal) = u (ix1 x)) ↔ _
    rw [hu x hx, EReal.coe_eq_coe_iff, Nat.cast_inj]
    exact ⟨fun h => ⟨hx, h.symm⟩, fun h => h.2.symm⟩
  · rw [if_neg hx]
    show (((r.val : ℝ) : EReal) = Ideal.ofBits .f32 0xBF800000#32) ↔ _
    rw [minus_one, EReal.coe_eq_coe_iff]
    refine ⟨fun h => absurd h ?_, fun h => absurd h.1 hx⟩
    have : (0 : ℝ) ≤ (r.val : ℝ) := Nat.cast_nonneg _
    intro h
    linarith

include hv in
theorem tail_col (k : Fin 40) (x : Fin 1024) (h : x.val < 576) : k1_pay10 (F := Ideal) v (ix2 k x) = col X0 k.val (999424 + x.val) := by
  have e : k1_pay10 (F := Ideal) v (ix2 k x) = if h : k.val < 32 then Scalar.select (k1_pay7 (ix2 0 x)) (v (ix2 ⟨k.val, h⟩ x)) 0 else if k.val - 32 < 1 then 1 else 0 := by
    unfold k1_pay10
    rw [pay8_eq]
    pointwise
    split_ifs <;> rfl
  rw [e, Fin.mask_at, if_pos h]
  unfold col
  by_cases hk : k.val < 32
  · rw [dif_pos hk, dif_pos hk, dif_pos (inTail x h)]
    exact hv _ x h
  · rw [dif_neg hk, dif_neg hk]
    exact if_congr (by omega) rfl rfl

include hu hv

/-- The last 576 cells' part of a table entry. -/
theorem tail_sum (r : Fin 1024) (k : Fin 40) :
    ∑ x : Fin 1024, (FloatOps.sitofp .f32 (k1_pay11 (F := Ideal) u (ix2 r x)) : Ideal .f32) * k1_pay10 (F := Ideal) v (ix2 k x)
      = ∑ x ∈ Finset.range 576, part X0 X r.val k.val (999424 + x) := by
  have e : ∀ x : Fin 1024, ((FloatOps.sitofp .f32 (k1_pay11 (F := Ideal) u (ix2 r x)) : Ideal .f32) * k1_pay10 (F := Ideal) v (ix2 k x) : EReal)
      = (fun n => if n < 576 then part X0 X r.val k.val (999424 + n) else 0) x.val := fun x => by
    rw [mark_at X u hu, Step.flag_mul]
    unfold part
    by_cases hx : x.val < 576
    · simp only [hx, true_and, if_true]
      rw [tail_col X0 v hv k x hx]
    · simp only [hx, false_and, if_false]
  rw [Finset.sum_congr rfl fun x _ => e x, Fin.sum_univ_eq_sum_range (fun n => if n < 576 then part X0 X r.val k.val (999424 + n) else 0) (576 + 448),
    Finset.sum_range_add]
  have z : ∑ x ∈ Finset.range 448, (if 576 + x < 576 then part X0 X r.val k.val (999424 + (576 + x)) else 0) = 0 :=
    Finset.sum_eq_zero fun x _ => if_neg (by omega)
  rw [z, add_zero]
  exact Finset.sum_congr rfl fun x hx => if_pos (Finset.mem_range.1 hx)

/-- The table of all cells. -/
theorem whole (s : FVec Ideal S1024x40 .f32) (r : Fin 1024) (k : Fin 40)
    (hs : s (ix2 r k) = ∑ n ∈ Finset.range 999424, part X0 X r.val k.val n) :
    s (ix2 r k) + ∑ x : Fin 1024, (FloatOps.sitofp .f32 (k1_pay11 (F := Ideal) u (ix2 r x)) : Ideal .f32) * k1_pay10 (F := Ideal) v (ix2 k x)
      = total X0 X r.val k.val := by
  rw [tail_sum X0 X u v hu hv, hs]
  unfold total
  rw [show (1000000 : ℕ) = 999424 + 576 from rfl, Finset.sum_range_add]

/-- From the table, the last cells and the targets, the distance loss. -/
theorem distance (s : FVec Ideal S1024x40 .f32) (Y : FVec Ideal S1024x32 .f32)
    (hs : ∀ (r : Fin 1024) (k : Fin 40), s (ix2 r k) = ∑ n ∈ Finset.range 999424, part X0 X r.val k.val n) :
    k1_pay1 (F := Ideal) s (k1_pay10 v) (k1_pay11 (F := Ideal) u) Y = distant X0 X Y := by
  pointwise [k1_pay1]
  unfold distant
  refine congrArg (fun z => Ideal.div z _) (Finset.sum_congr rfl fun r _ => Finset.sum_congr rfl fun k _ => ?_)
  exact congrArg₂ (fun a b => FloatOps.absf (F := Ideal) (φ := .f32) (Ideal.div a (max b 1) - Y (ix2 r k)))
    (whole X0 X u v hu hv s r ⟨k.val, lt_trans k.isLt (by decide)⟩ (hs _ _)) (whole X0 X u v hu hv s r 32 (hs _ _))

end Sums

end Cert.KernelIdeal.Cells

end
-- ==== Proof.Final.lean ====
/-
  The three results of the whole program over the extended reals.
-/
module

public import proofs.«01_k».proof.Proof.Tail

@[expose] public section

set_option maxRecDepth 16384

noncomputable section

namespace Cert.KernelIdeal.Cells

open Cert.KernelIdeal Cert.KernelIdeal.Gen Cert.KernelIdeal.Main Cert.KernelIdeal.Blocks Cert.KernelIdeal.Tables Cert.Given
open Cert.KernelIdeal.Fin (out0 out1 out2)
open Idealize.ShloMosaic Idealize.ShloMosaic.TcCoe
open Idealize.SL.Sem
open Idealize.ShloMosaic.Pipeline (Dat)

variable (m : (ℓ : Loc nD τ sig) → Buf (Elt Ideal) ℓ) (c : Dev nD)

/-! ## What the calls leave in the arrays -/

theorem last_lt : 121 < cfg0.N := by rw [show cfg0.N = 122 from N_0]; decide

/-- A grid point at which the totals are written back is the last. -/
theorem last_point (t : Fin cfg0.N) (h : t.val % 122 = 121) : t = ⟨121, last_lt⟩ := by
  have h2 : t.val < 122 := lt_of_lt_of_eq t.isLt N_0
  exact Fin.ext (show t.val = 121 by omega)

/-- The table of sums, after the last point. -/
theorem arr4 (W : Valuation τ sig (Elt Ideal)) (G : FVec Ideal S1024x40 .f32) (hG : accAfter W 121 last_lt = G) :
    (dat0 W c).arrAt 4 cfg0.N = G := by
  have ho : ∀ t : Fin cfg0.N, ∀ a, win0_4.kind.off (win0_4.index t a) (win0_4.size a) = 0 := by decide +kernel
  have hi : ∀ (t : Fin cfg0.N) (j : S1024x40.Idx), (win0_4.blk t).view.emb j = j := fun t j => funext fun a => Fin.ext (by
    show win0_4.kind.off (win0_4.index t a) (win0_4.size a) + 1 * (j a).val = (j a).val
    rw [ho]
    omega)
  refine (dat0 W c).arrAt_eq_of_cover 4 G (fun t ht => ?_) (fun i => ?_)
  · have h := last_point t ((flush0_4 t).1 ht)
    have ha : (dat0 W c).after 4 t = G := by
      rw [← hG, h]
      rfl
    unfold Dat.flushed
    rw [ha]
    funext j
    refine Eq.trans ?_ (View.read_apply _ _).symm
    exact (congrArg G (hi t j)).symm
  · refine ⟨⟨121, last_lt⟩, (flush0_4 _).2 rfl, ?_⟩
    have h := (win0_4.blk ⟨121, last_lt⟩).view.emb_mem_set i
    rw [hi] at h
    exact h

/-- The row of logarithms, after the last point. -/
theorem arr5 (W : Valuation τ sig (Elt Ideal)) (G : FVec Ideal S1x1024 .f32) (hG : mplAfter W 121 last_lt = G) :
    (dat0 W c).arrAt 5 cfg0.N = G := by
  have ho : ∀ t : Fin cfg0.N, ∀ a, win0_5.kind.off (win0_5.index t a) (win0_5.size a) = 0 := by decide +kernel
  have hi : ∀ (t : Fin cfg0.N) (j : S1x1024.Idx), (win0_5.blk t).view.emb j = j := fun t j => funext fun a => Fin.ext (by
    show win0_5.kind.off (win0_5.index t a) (win0_5.size a) + 1 * (j a).val = (j a).val
    rw [ho]
    omega)
  refine (dat0 W c).arrAt_eq_of_cover 5 G (fun t ht => ?_) (fun i => ?_)
  · have h := last_point t ((flush0_5 t).1 ht)
    have ha : (dat0 W c).after 5 t = G := by
      rw [← hG, h]
      rfl
    unfold Dat.flushed
    rw [ha]
    funext j
    refine Eq.trans ?_ (View.read_apply _ _).symm
    exact (congrArg G (hi t j)).symm
  · refine ⟨⟨121, last_lt⟩, (flush0_5 _).2 rfl, ?_⟩
    have h := (win0_5.blk ⟨121, last_lt⟩).view.emb_mem_set i
    rw [hi] at h
    exact h

/-- The first result's array. -/
theorem res5 (W : Valuation τ sig (Elt Ideal)) (G : FVec Ideal S1x1 .f32) (hG : ∀ t, (dat1 W c).after 5 t = G) :
    (dat1 W c).arrAt 5 cfg1.N = G := by
  have ho : ∀ t : Fin cfg1.N, ∀ a, win1_5.kind.off (win1_5.index t a) (win1_5.size a) = 0 := by decide +kernel
  have hi : ∀ (t : Fin cfg1.N) (j : S1x1.Idx), (win1_5.blk t).view.emb j = j := fun t j => funext fun a => Fin.ext (by
    show win1_5.kind.off (win1_5.index t a) (win1_5.size a) + 1 * (j a).val = (j a).val
    rw [ho]
    omega)
  refine (dat1 W c).arrAt_eq_of_cover 5 G (fun t ht => ?_) (fun i => ?_)
  · unfold Dat.flushed
    rw [hG t]
    funext j
    refine Eq.trans ?_ (View.read_apply _ _).symm
    exact (congrArg G (hi t j)).symm
  · refine ⟨t1_0, flush1_5 _, ?_⟩
    have h := (win1_5.blk t1_0).view.emb_mem_set i
    rw [hi] at h
    exact h

/-- The second result's array. -/
theorem res6 (W : Valuation τ sig (Elt Ideal)) (G : FVec Ideal S1x1 .f32) (hG : ∀ t, (dat1 W c).after 6 t = G) :
    (dat1 W c).arrAt 6 cfg1.N = G := by
  have ho : ∀ t : Fin cfg1.N, ∀ a, win1_6.kind.off (win1_6.index t a) (win1_6.size a) = 0 := by decide +kernel
  have hi : ∀ (t : Fin cfg1.N) (j : S1x1.Idx), (win1_6.blk t).view.emb j = j := fun t j => funext fun a => Fin.ext (by
    show win1_6.kind.off (win1_6.index t a) (win1_6.size a) + 1 * (j a).val = (j a).val
    rw [ho]
    omega)
  refine (dat1 W c).arrAt_eq_of_cover 6 G (fun t ht => ?_) (fun i => ?_)
  · unfold Dat.flushed
    rw [hG t]
    funext j
    refine Eq.trans ?_ (View.read_apply _ _).symm
    exact (congrArg G (hi t j)).symm
  · refine ⟨t1_0, flush1_6 _, ?_⟩
    have h := (win1_6.blk t1_0).view.emb_mem_set i
    rw [hi] at h
    exact h

/-- The third result's array. -/
theorem res7 (W : Valuation τ sig (Elt Ideal)) (G : FVec Ideal S1x1 .f32) (hG : ∀ t, (dat1 W c).after 7 t = G) :
    (dat1 W c).arrAt 7 cfg1.N = G := by
  have ho : ∀ t : Fin cfg1.N, ∀ a, win1_7.kind.off (win1_7.index t a) (win1_7.size a) = 0 := by decide +kernel
  have hi : ∀ (t : Fin cfg1.N) (j : S1x1.Idx), (win1_7.blk t).view.emb j = j := fun t j => funext fun a => Fin.ext (by
    show win1_7.kind.off (win1_7.index t a) (win1_7.size a) + 1 * (j a).val = (j a).val
    rw [ho]
    omega)
  refine (dat1 W c).arrAt_eq_of_cover 7 G (fun t ht => ?_) (fun i => ?_)
  · unfold Dat.flushed
    rw [hG t]
    funext j
    refine Eq.trans ?_ (View.read_apply _ _).symm
    exact (congrArg G (hi t j)).symm
  · refine ⟨t1_0, flush1_7 _, ?_⟩
    have h := (win1_7.blk t1_0).view.emb_mem_set i
    rw [hi] at h
    exact h

/-- The first call's table of sums, in the array. -/
theorem W6_sums : W6 m c main_v30_0 = accAfter (V5 m c) 121 last_lt :=
  (Pipeline.afterRegion_arr (dat0 (V5 m c) c) (V5 m c) launch0.win.arr_inj 4).trans (arr4 c (V5 m c) _ rfl)
/-- The first call's row of logarithms, in the array. -/
theorem W6_logs : W6 m c main_v30_1 = mplAfter (V5 m c) 121 last_lt :=
  (Pipeline.afterRegion_arr (dat0 (V5 m c) c) (V5 m c) launch0.win.arr_inj 5).trans (arr5 c (V5 m c) _ rfl)
/-- The first call leaves the features alone. -/
theorem W6_v0 : W6 m c main_v0 = V5 m c main_v0 :=
  Pipeline.afterRegion_keeps _ _ launch0.win.arr_inj (fun w => rfl) main_v0 (by decide)
/-- The first call leaves the bags alone. -/
theorem W6_v1 : W6 m c main_v1 = V5 m c main_v1 :=
  Pipeline.afterRegion_keeps _ _ launch0.win.arr_inj (fun w => rfl) main_v1 (by decide)

/-- The second call's first result. -/
theorem W7_0 : W7 m c main_v31_0 = out0 (tailBags (W6 m c) t1_0) (tailFeats (W6 m c) t1_0) (sums (W6 m c) t1_0) (logs (W6 m c) t1_0) (targets (W6 m c) t1_0) :=
  (Pipeline.afterRegion_arr (dat1 (W6 m c) c) (W6 m c) launch1.win.arr_inj 5).trans
    (res5 c (W6 m c) _ fun t => by rw [fin_N1 t]; rfl)
/-- The second call's second result. -/
theorem W7_1 : W7 m c main_v31_1 = out1 (tailFeats (W6 m c) t1_0) (logs (W6 m c) t1_0) :=
  (Pipeline.afterRegion_arr (dat1 (W6 m c) c) (W6 m c) launch1.win.arr_inj 6).trans
    (res6 c (W6 m c) _ fun t => by rw [fin_N1 t]; rfl)
/-- The second call's third result. -/
theorem W7_2 : W7 m c main_v31_2 = out2 (tailBags (W6 m c) t1_0) (tailFeats (W6 m c) t1_0) (sums (W6 m c) t1_0) (targets (W6 m c) t1_0) :=
  (Pipeline.afterRegion_arr (dat1 (W6 m c) c) (W6 m c) launch1.win.arr_inj 7).trans
    (res7 c (W6 m c) _ fun t => by rw [fin_N1 t]; rfl)

theorem W8_0 : W8 m c main_v32 ix0 = W7 m c main_v31_0 (ix2 0 0) := by
  unfold W8
  after_reads_at
theorem W8_1 : W8 m c main_v33 ix0 = W7 m c main_v31_1 (ix2 0 0) := by
  unfold W8
  after_reads_at
theorem W8_2 : W8 m c main_v34 ix0 = W7 m c main_v31_2 (ix2 0 0) := by
  unfold W8
  after_reads_at

/-! ## What the second call reads -/

variable {m c}

/-- The targets as the program is given them. -/
def aims (m : (ℓ : Loc nD τ sig) → Buf (Elt Ideal) ℓ) (c : Dev nD) : FVec Ideal S1024x32 .f32 := m ((c.tc : Thread nD τ).loc main_arg2)

/-- The targets that it reads. -/
theorem aims_read : targets (W6 m c) t1_0 = aims m c := (targets_read (W6 m c) t1_0).trans (Frames.arg2_mid m c)

/-- The row of logarithms that the second call reads. -/
theorem logs_at (j : Fin 1024) : logs (W6 m c) t1_0 (ix2 0 j) = ∑ q ∈ Finset.range 976, lg (cells m c) (1024 * q + j.val) := by
  rw [logs_read, W6_logs]
  exact mpl_at 121 last_lt j

/-- The last cells' features that it reads. -/
theorem feats_at (k : Fin 32) (x : Fin 1024) (h : x.val < 576) :
    tailFeats (W6 m c) t1_0 (ix2 k x) = cells m c (ix2 ⟨999424 + x.val, inTail x h⟩ k) := by
  rw [tailFeats_read _ _ k x h, W6_v0]
  exact V5_v0 m c k _

variable (hX : Sorted (given m c))
include hX

/-- The table of sums that it reads. -/
theorem sums_at (r : Fin 1024) (k : Fin 40) :
    sums (W6 m c) t1_0 (ix2 r k) = ∑ n ∈ Finset.range 999424, part (cells m c) (given m c) r.val k.val n := by
  rw [sums_read, W6_sums]
  exact acc_at hX 121 last_lt r k

/-- The last cells' bags that it reads. -/
theorem marks_at (x : Fin 1024) (h : x.val < 576) :
    (tailBags (W6 m c) t1_0 (ix1 x) : EReal) = ((bag (given m c) (999424 + x.val) : ℝ) : EReal) := by
  rw [tailBags_read _ _ x h, W6_v1]
  exact V5_v1 hX _

/-! ## The three results -/

omit hX in
/-- What it computes for the likelihood loss. -/
theorem likely_pay : k1_pay2 (F := Ideal) (k1_pay9 (logs (W6 m c) t1_0) (tailFeats (W6 m c) t1_0)) = likely (cells m c) := by
  rw [logs_all (cells m c) _ _ logs_at feats_at]
  unfold likely
  rw [← minus_div]
  pointwise [k1_pay2]

/-- What it computes for the distance loss. -/
theorem distant_pay : k1_pay1 (F := Ideal) (k1_pay6 (sums (W6 m c) t1_0)) (k1_pay10 (tailFeats (W6 m c) t1_0)) (k1_pay11 (tailBags (W6 m c) t1_0)) (targets (W6 m c) t1_0)
    = distant (cells m c) (given m c) (aims m c) := by
  have e6 : k1_pay6 (F := Ideal) (sums (W6 m c) t1_0) = sums (W6 m c) t1_0 := by
    funext i
    idx_vars i
    pointwise [k1_pay6]
  rw [e6, aims_read]
  exact distance (cells m c) (given m c) _ _ (marks_at hX) feats_at _ _ (sums_at hX)

/-- The program's first result is the loss. -/
theorem result0 : W8 m c main_v32 = fun _ => loss (cells m c) (given m c) (aims m c) := by
  funext i
  rw [show i = ix0 from Subsingleton.elim (α := S_.Idx) i ix0, W8_0, W7_0]
  unfold out0 loss
  rw [← likely_pay, ← distant_pay hX]
  pointwise [k1_pay3]
omit hX in
/-- The second is the likelihood loss. -/
theorem result1 : W8 m c main_v33 = fun _ => likely (cells m c) := by
  funext i
  rw [show i = ix0 from Subsingleton.elim (α := S_.Idx) i ix0, W8_1, W7_1]
  unfold out1
  rw [← likely_pay]
  pointwise [k1_pay4]
/-- The third is the distance loss. -/
theorem result2 : W8 m c main_v34 = fun _ => distant (cells m c) (given m c) (aims m c) := by
  funext i
  rw [show i = ix0 from Subsingleton.elim (α := S_.Idx) i ix0, W8_2, W7_2]
  unfold out2
  rw [← distant_pay hX]
  pointwise [k1_pay5]

end Cert.KernelIdeal.Cells

end
-- ==== Proof.RefValue.lean ====
/-
  The reference's two accumulations, entry by entry: a table's row is the sum of the cells whose bag it is.
-/
module

public import proofs.«01_k».proof.Proof.Gen.ReferenceIdeal.Run
public import proofs.«01_k».proof.Proof.Tail
public import Idealize.ShloMosaic.Lib.Routing.OpsPair

@[expose] public section

set_option maxRecDepth 16384

noncomputable section

namespace Cert.ReferenceIdeal.Value

open Cert.ReferenceIdeal Cert.ReferenceIdeal.Gen Cert.Given Cert.KernelIdeal.Cells
open Idealize.ShloMosaic

/-! ## Where an update lands -/

/-- A cell's one lands on the row of its bag. -/
theorem lands_row (idx : IVec S1000000x1 32) (n : Fin 1000000) (r : Fin 1024) :
    scatter_S1024_S1000000x1_S1000000_n_0_0_1.resultIdx? (ix1 n) idx = some (ix1 r) ↔ (idx (ix2 n 0)).toInt = (r.val : ℤ) := by
  rw [Routing.resultIdx?_eq_some]
  have hs : scatter_S1024_S1000000x1_S1000000_n_0_0_1.start (ix1 n) idx 0 = (idx (ix2 n 0)).toInt := by
    unfold ScatterDims.start
    rw [dif_pos (by decide)]
    refine congrArg (fun i => (idx i).toInt) (funext fun a => Fin.ext ?_)
    fin_cases a <;> rfl
  have hw : scatter_S1024_S1000000x1_S1000000_n_0_0_1.window (ix1 n) 0 = 0 := by
    unfold ScatterDims.window
    rw [dif_neg (by decide)]
  constructor
  · intro h
    have := h 0
    rw [hs, hw] at this
    simpa using this
  · intro h a
    fin_cases a
    show scatter_S1024_S1000000x1_S1000000_n_0_0_1.start (ix1 n) idx 0 + (scatter_S1024_S1000000x1_S1000000_n_0_0_1.window (ix1 n) 0 : ℤ) = (r.val : ℤ)
    rw [hs, hw, h]
    simp

/-- A cell's feature lands on its bag's row and its own column. -/
theorem lands_cell (idx : IVec S1000000x1 32) (n : Fin 1000000) (j k : Fin 32) (r : Fin 1024) :
    scatter_S1024x32_S1000000x1_S1000000x32_1_0_0_1.resultIdx? (ix2 n j) idx = some (ix2 r k)
      ↔ (idx (ix2 n 0)).toInt = (r.val : ℤ) ∧ j = k := by
  rw [Routing.resultIdx?_eq_some]
  have hs : scatter_S1024x32_S1000000x1_S1000000x32_1_0_0_1.start (ix2 n j) idx 0 = (idx (ix2 n 0)).toInt := by
    unfold ScatterDims.start
    rw [dif_pos (by decide)]
    refine congrArg (fun i => (idx i).toInt) (funext fun a => Fin.ext ?_)
    fin_cases a <;> rfl
  have hs1 : scatter_S1024x32_S1000000x1_S1000000x32_1_0_0_1.start (ix2 n j) idx 1 = 0 := by
    unfold ScatterDims.start
    rw [dif_neg (by decide)]
  have hw : scatter_S1024x32_S1000000x1_S1000000x32_1_0_0_1.window (ix2 n j) 0 = 0 := by
    unfold ScatterDims.window
    rw [dif_neg (by decide)]
  have hw1 : scatter_S1024x32_S1000000x1_S1000000x32_1_0_0_1.window (ix2 n j) 1 = j.val := by
    unfold ScatterDims.window
    rw [dif_pos (by decide)]
    rfl
  constructor
  · intro h
    have h0 := h 0
    have h1 := h 1
    rw [hs, hw] at h0
    rw [hs1, hw1] at h1
    refine ⟨by simpa using h0, Fin.ext ?_⟩
    have : ((j.val : ℕ) : ℤ) = (k.val : ℤ) := by simpa using h1
    exact_mod_cast this
  · rintro ⟨h, rfl⟩ a
    fin_cases a
    · show scatter_S1024x32_S1000000x1_S1000000x32_1_0_0_1.start (ix2 n j) idx 0 + (scatter_S1024x32_S1000000x1_S1000000x32_1_0_0_1.window (ix2 n j) 0 : ℤ) = (r.val : ℤ)
      rw [hs, hw, h]
      simp
    · show scatter_S1024x32_S1000000x1_S1000000x32_1_0_0_1.start (ix2 n j) idx 1 + (scatter_S1024x32_S1000000x1_S1000000x32_1_0_0_1.window (ix2 n j) 1 : ℤ) = (j.val : ℤ)
      rw [hs1, hw1]
      simp

/-! ## The two tables -/

section Tables

variable (X0 : FVec Ideal S1000000x32 .f32) (X : IVec S1000000 32) (hX : Sorted X)

theorem column_word (n : Fin 1000000) :
    broadcastInDim S1000000x1 ![0] bcast_S1000000_S1000000x1_0 X (ix2 n 0) = X (ix1 n) := by
  pointwise

variable {X}
include hX

theorem bag_word (n : Fin 1000000) (r : Fin 1024) :
    (broadcastInDim S1000000x1 ![0] bcast_S1000000_S1000000x1_0 X (ix2 n 0)).toInt = (r.val : ℤ) ↔ bag X n.val = r.val := by
  have hb := hX.lt n.val
  rw [column_word, word_eq X n.isLt, Cert.KernelIdeal.Tables.toInt_word (by omega)]
  exact Nat.cast_inj

/-- The counts: a row holds the number of cells of that bag. -/
theorem counts_at (r : Fin 1024) :
    Host.scatterAdd (F := Ideal) scatter_S1024_S1000000x1_S1000000_n_0_0_1
      (broadcastInDim S1024 ![] bcast_S_S1024 (constant S_ .f32 0x00000000#32))
      (broadcastInDim S1000000x1 ![0] bcast_S1000000_S1000000x1_0 X)
      (broadcastInDim S1000000 ![] bcast_S_S1000000 (constant S_ .f32 0x3F800000#32)) (ix1 r) = total X0 X r.val 32 := by
  have e0 : broadcastInDim S1024 ![] bcast_S_S1024 (constant (F := Ideal) S_ .f32 0x00000000#32) (ix1 r) = (0 : EReal) := by pointwise
  have e1 : ∀ n, broadcastInDim S1000000 ![] bcast_S_S1000000 (constant (F := Ideal) S_ .f32 0x3F800000#32) (ix1 n) = (1 : EReal) := by
    intro n; pointwise
  show (_ + ∑ j ∈ Finset.univ.filter (fun j => scatter_S1024_S1000000x1_S1000000_n_0_0_1.resultIdx? j _ = some (ix1 r)), _ : EReal) = _
  rw [e0, zero_add, Finset.sum_filter, sum_idx1]
  unfold total
  rw [← Fin.sum_univ_eq_sum_range]
  refine Finset.sum_congr rfl fun n _ => ?_
  rw [e1]
  unfold part col
  refine if_congr ((lands_row _ n r).trans (bag_word hX n r)) ?_ rfl
  rfl

/-- The sums: a row holds the features of that bag's cells, added up. -/
theorem sums_at (r : Fin 1024) (k : Fin 32) :
    Host.scatterAdd (F := Ideal) scatter_S1024x32_S1000000x1_S1000000x32_1_0_0_1
      (broadcastInDim S1024x32 ![] bcast_S_S1024x32 (constant S_ .f32 0x00000000#32))
      (broadcastInDim S1000000x1 ![0] bcast_S1000000_S1000000x1_0 X) X0 (ix2 r k) = total X0 X r.val k.val := by
  have e0 : broadcastInDim S1024x32 ![] bcast_S_S1024x32 (constant (F := Ideal) S_ .f32 0x00000000#32) (ix2 r k) = (0 : EReal) := by pointwise
  show (_ + ∑ j ∈ Finset.univ.filter (fun j => scatter_S1024x32_S1000000x1_S1000000x32_1_0_0_1.resultIdx? j _ = some (ix2 r k)), _ : EReal) = _
  rw [e0, zero_add, Finset.sum_filter, sum_idx2]
  unfold total
  rw [← Fin.sum_univ_eq_sum_range]
  refine Finset.sum_congr rfl fun n _ => ?_
  rw [Finset.sum_eq_single k]
  · unfold part col
    rw [dif_pos k.isLt, dif_pos n.isLt]
    exact if_congr (((lands_cell _ n k k r).trans (and_iff_left rfl)).trans (bag_word hX n r)) rfl rfl
  · intro j _ hj
    exact if_neg fun h => hj ((lands_cell _ n j k r).1 h).2
  · intro h
    exact absurd (Finset.mem_univ k) h

end Tables

end Cert.ReferenceIdeal.Value

end
-- ==== Proof.RefResult.lean ====
/-
  The reference's three results, as the sums the kernel's are written in.
-/
module

public import proofs.«01_k».proof.Proof.RefValue

@[expose] public section

set_option maxRecDepth 16384

noncomputable section

namespace Cert.ReferenceIdeal.Value

open Cert.ReferenceIdeal Cert.ReferenceIdeal.Gen Cert.Given Cert.KernelIdeal.Cells
open Idealize.ShloMosaic

/-! ## The three results -/

variable (X0 : FVec Ideal S1000000x32 .f32) (X : IVec S1000000 32) (Y : FVec Ideal S1024x32 .f32)

/-- A cell's greatest feature. -/
theorem max_at (n : Fin 1000000) :
    Host.reduce (FloatOps.maximumf : Ideal .f32 → Ideal .f32 → Ideal .f32) X0 (constant (F := Ideal) S_ .f32 0xFF800000#32) reducesTo_S1000000x32_S1000000_d1 h_S_ (ix1 n)
      = Finset.fold max (Ideal.ofBits .f32 4286578688#32) (fun k : Fin 32 => X0 (ix2 n k)) Finset.univ := by
  pointwise

theorem log_at (v : FVec Ideal S1000000 .f32) (n : Fin 1000000) : Host.log (F := Ideal) v (ix1 n) = Ideal.log (v (ix1 n)) := rfl

/-- The likelihood loss. -/
theorem likely_eq :
    Host.negf (F := Ideal) (Host.divf (Host.reduceAdd (Host.log (Host.reduce FloatOps.maximumf X0 (constant S_ .f32 0xFF800000#32) reducesTo_S1000000x32_S1000000_d1 h_S_)) (constant S_ .f32 0x00000000#32) reducesTo_S1000000_S_d0 h_S_) (constant S_ .f32 0x49742400#32))
      = fun _ => likely X0 := by
  funext i
  rw [show i = ix0 from Subsingleton.elim (α := S_.Idx) i ix0]
  unfold likely
  rw [← Fin.sum_univ_eq_sum_range]
  have e : ∀ n : Fin 1000000, lg X0 n.val = Host.log (F := Ideal) (φ := .f32) (Host.reduce FloatOps.maximumf X0 (constant S_ .f32 0xFF800000#32) reducesTo_S1000000x32_S1000000_d1 h_S_) (ix1 n) := fun n => by
    unfold lg logMax
    rw [dif_pos n.isLt, ← max_at X0 n]
    exact (log_at _ n).symm
  rw [Finset.sum_congr rfl fun n _ => e n]
  generalize Host.log (F := Ideal) (φ := .f32) (Host.reduce FloatOps.maximumf X0 (constant S_ .f32 0xFF800000#32) reducesTo_S1000000x32_S1000000_d1 h_S_) = v
  pointwise

variable {X}

/-- The distance loss. -/
theorem distant_eq (hX : Sorted X) :
    Host.divf (F := Ideal) (Host.reduceAdd (Host.absf (subf (Host.divf (Host.scatterAdd scatter_S1024x32_S1000000x1_S1000000x32_1_0_0_1 (broadcastInDim S1024x32 ![] bcast_S_S1024x32 (constant S_ .f32 0x00000000#32)) (broadcastInDim S1000000x1 ![0] bcast_S1000000_S1000000x1_0 X) X0) (broadcastInDim S1024x32 ![0, 1] bcast_S1024x1_S1024x32_0_1 (broadcastInDim S1024x1 ![0] bcast_S1024_S1024x1_0 (maximumf (broadcastInDim S1024 ![] bcast_S_S1024 (id (constant S_ .f32 0x3F800000#32))) (Host.scatterAdd scatter_S1024_S1000000x1_S1000000_n_0_0_1 (broadcastInDim S1024 ![] bcast_S_S1024 (constant S_ .f32 0x00000000#32)) (broadcastInDim S1000000x1 ![0] bcast_S1000000_S1000000x1_0 X) (broadcastInDim S1000000 ![] bcast_S_S1000000 (constant S_ .f32 0x3F800000#32))))))) Y)) (constant S_ .f32 0x00000000#32) reducesTo_S1024x32_S_d0_1 h_S_) (constant S_ .f32 0x47000000#32)
      = fun _ => distant X0 X Y := by
  have es := sums_at X0 hX
  have ec := counts_at X0 hX
  generalize Host.scatterAdd (F := Ideal) scatter_S1024x32_S1000000x1_S1000000x32_1_0_0_1 _ _ X0 = S at es ⊢
  generalize Host.scatterAdd (F := Ideal) scatter_S1024_S1000000x1_S1000000_n_0_0_1 _ _ _ = C at ec ⊢
  funext i
  rw [show i = ix0 from Subsingleton.elim (α := S_.Idx) i ix0]
  unfold distant
  pointwise
  refine congrArg (fun z => Ideal.div z _) (Finset.sum_congr rfl fun r _ => Finset.sum_congr rfl fun k _ => ?_)
  have e1 : id (constant (F := Ideal) S_ .f32 0x3F800000#32) ix0 = 1 := Ideal.ofBits_one_f32
  rw [es, ec, max_comm, e1]

/-- The loss. -/
theorem loss_eq :
    addf (F := Ideal) (mulf (constant S_ .f32 0x3F000000#32) (fun _ => likely X0)) (mulf (constant S_ .f32 0x3F000000#32) (fun _ => distant X0 X Y))
      = fun _ => loss X0 X Y := by
  funext i
  rfl

end Cert.ReferenceIdeal.Value

end
-- ==== Proof.lean ====
/-
  The claim, assembled: the three frames, and the two programs' equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_sorted_bags
public import proofs.«01_k».proof.Proof.Twin
public import proofs.«01_k».proof.Proof.Final
public import proofs.«01_k».proof.Proof.RefResult
public import Idealize.ShloMosaic.Adequacy
public import Idealize.ShloMosaic.Init

@[expose] public section

noncomputable section

namespace Cert.Proof

open Idealize.ShloMosaic Idealize.SL.Sem Cert.Kernel

/-- The precondition, as the kernel's proof reads it: the bag numbers ascend and are in range. -/
theorem sortedK (m : (ℓ : Loc Cert.Kernel.nD Cert.Kernel.τ Cert.Kernel.sig) → Buf (Elt Bits) ℓ) (h : Cert.Pre_Kernel m)
    (c : Dev Cert.Kernel.nD) : Cert.Given.Sorted (m ((c.tc : Thread Cert.Kernel.nD Cert.Kernel.τ).loc Cert.Kernel.main_arg1)) :=
  Cert.Given.sorted_of_pre _ _ _ (h c)
/-- The same, of the kernel over the extended reals. -/
theorem sortedI (m : (ℓ : Loc Cert.KernelIdeal.nD Cert.KernelIdeal.τ Cert.KernelIdeal.sig) → Buf (Elt Ideal) ℓ)
    (h : Cert.Pre_KernelIdeal m) (c : Dev Cert.KernelIdeal.nD) : Cert.Given.Sorted (Cert.KernelIdeal.Tables.given m c) :=
  Cert.Given.sorted_of_pre _ _ _ (h c)

/-- The kernel ends without fault, with its arguments unchanged and every counter at zero. -/
theorem frameK : Cert.quiescent_Kernel := fun m g h => Cert.Kernel.Frames.frame m g (sortedK m h)
/-- So does the kernel over the extended reals. -/
theorem frameI : Cert.quiescent_KernelIdeal := fun m g h => Cert.KernelIdeal.Frames.frame m (sortedI m h) g
/-- So does the reference, with no condition on its arguments. -/
theorem frameR : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

open Cert.KernelIdeal.Cells (cells aims likely distant loss) in
open Cert.KernelIdeal.Tables (given) in
/-- The kernel's results are the reference's. -/
theorem equal : Cert.algebraic_KernelIdeal_ReferenceIdeal := fun m g m' g' h hm =>
  ⟨fun c => fun _ => loss (cells m c) (given m c) (aims m c), fun c => fun _ => likely (cells m c),
    fun c => fun _ => distant (cells m c) (given m c) (aims m c),
    (θ_run Cert.KernelIdeal.defs _ _).mono
      (fun r k c => ⟨(k.1 c).1.trans (Cert.KernelIdeal.Cells.result0 (sortedI m h c)),
        (k.1 c).2.1.trans Cert.KernelIdeal.Cells.result1,
        (k.1 c).2.2.1.trans (Cert.KernelIdeal.Cells.result2 (sortedI m h c)), (k.1 c).2.2.2⟩)
      (Cert.KernelIdeal.Frames.ends m (sortedI m h) g),
    (θ_run Cert.ReferenceIdeal.defs _ _).mono
      (fun r k c => by
        have e0 : m' ((c.tc : Thread Cert.ReferenceIdeal.nD Cert.ReferenceIdeal.τ).loc Cert.ReferenceIdeal.main_arg0) = cells m c := (hm c).1
        have e1 : m' ((c.tc : Thread Cert.ReferenceIdeal.nD Cert.ReferenceIdeal.τ).loc Cert.ReferenceIdeal.main_arg1) = given m c := (hm c).2.1
        have e2 : m' ((c.tc : Thread Cert.ReferenceIdeal.nD Cert.ReferenceIdeal.τ).loc Cert.ReferenceIdeal.main_arg2) = aims m c := (hm c).2.2
        obtain ⟨k0, k1, k2, k3⟩ := k c
        rw [e0, e1, e2, Cert.ReferenceIdeal.Value.likely_eq, Cert.ReferenceIdeal.Value.distant_eq _ _ (sortedI m h c)] at k0
        rw [e0, Cert.ReferenceIdeal.Value.likely_eq] at k1
        rw [e0, e1, e2, Cert.ReferenceIdeal.Value.distant_eq _ _ (sortedI m h c)] at k2
        exact ⟨k0.trans (Cert.ReferenceIdeal.Value.loss_eq _ _), k1, k2, k3⟩)
      (Cert.ReferenceIdeal.Value.run (F := Ideal) m' g')⟩

/-- Everything that is claimed. -/
theorem claim : Cert.Claim := ⟨Cert.Kernel.Gen.facts, Cert.KernelIdeal.Gen.facts, Cert.ReferenceIdeal.Gen.facts, Cert.Pre_sorted_bags.Gen.facts,
  frameK, frameI, frameR, fun m g _ => frameR m g trivial, trivial, equal⟩

end Cert.Proof

end
